-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_2)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_3)) (v3 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_2) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_3) = v2 c
          ∧ r.2.mem ((c.tc : Thread Cert.KernelIdeal.nD Cert.KernelIdeal.τ).loc Cert.KernelIdeal.main_v4_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x64x2048 : Shape := ⟨3, ![16, 64, 2048]⟩
abbrev S1024x64 : Shape := ⟨2, ![1024, 64]⟩
abbrev S_ : Shape := ⟨0, ![]⟩

class Facts : Prop where
  bcast_S_S16x64x2048 : S_.BroadcastsInDim S16x64x2048 (![] : Fin 0 → Fin S16x64x2048.rank)
  bcast_S_S1024x64 : S_.BroadcastsInDim S1024x64 (![] : Fin 0 → Fin S1024x64.rank)

variable [Facts]

def fn {F : FTy → Type} [FloatOps F] (main_arg0 : FVec F S16x64x2048 .f32) (main_arg1 : FVec F S1024x64 .f32) : IVec S16x64x2048 1 × IVec S1024x64 1 :=
  let main_v0 : FVec F S16x64x2048 .f32 := Host.absf main_arg0
  let main_cst : FVec F S_ .f32 := constant S_ .f32 0x7F800000#32
  let main_v1 : FVec F S16x64x2048 .f32 := broadcastInDim S16x64x2048 ![] bcast_S_S16x64x2048 main_cst
  let main_v2 : IVec S16x64x2048 1 := cmpf .olt main_v0 main_v1
  let main_v3 : FVec F S1024x64 .f32 := Host.absf main_arg1
  let main_cst_0 : FVec F S_ .f32 := constant S_ .f32 0x7F800000#32
  let main_v4 : FVec F S1024x64 .f32 := broadcastInDim S1024x64 ![] bcast_S_S1024x64 main_cst_0
  let main_v5 : IVec S1024x64 1 := cmpf .olt main_v3 main_v4
  (main_v2, main_v5)
-- ==== Kernel.lean ====
abbrev S16x64x2048 : Shape := ⟨3, ![16, 64, 2048]⟩
abbrev S1024x64 : Shape := ⟨2, ![1024, 64]⟩
abbrev S64x1024 : Shape := ⟨2, ![64, 1024]⟩
abbrev S_ : Shape := ⟨0, ![]⟩
abbrev S32768x1024 : Shape := ⟨2, ![32768, 1024]⟩
abbrev S1x1 : Shape := ⟨2, ![1, 1]⟩
abbrev S1x64x512 : Shape := ⟨3, ![1, 64, 512]⟩
abbrev S512x1024 : Shape := ⟨2, ![512, 1024]⟩
abbrev S1x1024 : Shape := ⟨2, ![1, 1024]⟩
abbrev S64x1 : Shape := ⟨2, ![64, 1]⟩
abbrev S1024 : Shape := ⟨1, ![1024]⟩
abbrev S64x512 : Shape := ⟨2, ![64, 512]⟩
abbrev S64x64 : Shape := ⟨2, ![64, 64]⟩
abbrev S512x64 : Shape := ⟨2, ![512, 64]⟩
abbrev S512 : Shape := ⟨1, ![512]⟩
abbrev S512x1 : Shape := ⟨2, ![512, 1]⟩
abbrev S64x128 : Shape := ⟨2, ![64, 128]⟩
abbrev S1x128 : Shape := ⟨2, ![1, 128]⟩
abbrev S64 : Shape := ⟨1, ![64]⟩
abbrev S1x64x1 : Shape := ⟨3, ![1, 64, 1]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 11
  | .vmem => 11
  | .smem => 2
  | _ => 0

abbrev bufTy : (tb : Table) → Fin (tcTables nBuf tb) → BufTy
  | .hbm, ⟨0, _⟩ => ⟨S16x64x2048, .f32⟩
  | .hbm, ⟨1, _⟩ => ⟨S1024x64, .f32⟩
  | .hbm, ⟨2, _⟩ => ⟨S64x1024, .f32⟩
  | .hbm, ⟨3, _⟩ => ⟨S_, .f32⟩
  | .hbm, ⟨4, _⟩ => ⟨S64x1024, .f32⟩
  | .hbm, ⟨5, _⟩ => ⟨S64x1024, .f32⟩
  | .hbm, ⟨6, _⟩ => ⟨S1024x64, .bf16⟩
  | .hbm, ⟨7, _⟩ => ⟨S32768x1024, .f32⟩
  | .hbm, ⟨8, _⟩ => ⟨S16x64x2048, .f32⟩
  | .hbm, ⟨9, _⟩ => ⟨S1x1, .f32⟩
  | .hbm, ⟨10, _⟩ => ⟨S1x1, .f32⟩
  | .local _ .vmem, ⟨0, _⟩ => ⟨S1x64x512, .f32⟩
  | .local _ .vmem, ⟨1, _⟩ => ⟨S1x64x512, .f32⟩
  | .local _ .vmem, ⟨2, _⟩ => ⟨S1024x64, .bf16⟩
  | .local _ .vmem, ⟨3, _⟩ => ⟨S64x1024, .f32⟩
  | .local _ .vmem, ⟨4, _⟩ => ⟨S512x1024, .f32⟩
  | .local _ .vmem, ⟨5, _⟩ => ⟨S512x1024, .f32⟩
  | .local _ .vmem, ⟨6, _⟩ => ⟨S1x64x512, .f32⟩
  | .local _ .vmem, ⟨7, _⟩ => ⟨S1x64x512, .f32⟩
  | .local _ .vmem, ⟨8, _⟩ => ⟨S1x1024, .f32⟩
  | .local _ .vmem, ⟨9, _⟩ => ⟨S1x1024, .f32⟩
  | .local _ .vmem, ⟨10, _⟩ => ⟨S64x1, .f32⟩
  | .local _ .smem, ⟨0, _⟩ => ⟨S1x1, .f32⟩
  | .local _ .smem, ⟨1, _⟩ => ⟨S1x1, .f32⟩
  | _, _ => ⟨S16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg5_0 : Ref sig .tc := ⟨.smem, 0, rfl⟩
abbrev cc0_stg6_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v1295 : BitVec 1 := Scalar.cmpi .eq arg0 c63_i32
  let v1296 : BitVec 32 := Scalar.extui v1295
  let c0_i32_209 : BitVec 32 := 0#32
  let v1297 : BitVec 1 := Scalar.cmpi .ne v1296 c0_i32_209
  v1297

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x64x2048 : Shape := ⟨3, ![16, 64, 2048]⟩
abbrev S1024x64 : Shape := ⟨2, ![1024, 64]⟩
abbrev S16x2048x64 : Shape := ⟨3, ![16, 2048, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S64x1024 : Shape := ⟨2, ![64, 1024]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S16x64x2048, .f32⟩
  | .hbm, ⟨1, _⟩ => ⟨S1024x64, .f32⟩
  | .hbm, ⟨2, _⟩ => ⟨S16x2048x64, .f32⟩
  | .hbm, ⟨3, _⟩ => ⟨S32768x64, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S64x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .i32⟩
  | .hbm, ⟨22, _⟩ => ⟨S_, .f32⟩
  | .hbm, ⟨23, _⟩ => ⟨S_, .i32⟩
  | .hbm, ⟨24, _⟩ => ⟨S32768, .f32⟩
  | .hbm, ⟨25, _⟩ => ⟨S32768, .i32⟩
  | .hbm, ⟨26, _⟩ => ⟨S32768x1, .i32⟩
  | .hbm, ⟨27, _⟩ => ⟨S1x1024, .i32⟩
  | .hbm, ⟨28, _⟩ => ⟨S32768x1024, .i32⟩
  | .hbm, ⟨29, _⟩ => ⟨S32768x1024, .i32⟩
  | .hbm, ⟨30, _⟩ => ⟨S32768x1024, .i1⟩
  | .hbm, ⟨31, _⟩ => ⟨S32768x1024, .f32⟩
  | .hbm, ⟨32, _⟩ => ⟨S32768x64, .f32⟩
  | .hbm, ⟨33, _⟩ => ⟨S16x2048x64, .f32⟩
  | .hbm, ⟨34, _⟩ => ⟨S16x2048x64, .f32⟩
  | .hbm, ⟨35, _⟩ => ⟨S16x2048x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16x2048x64, .f32⟩
  | .hbm, ⟨41, _⟩ => ⟨S16x2048x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S16x2048x64, .f32⟩
  | .hbm, ⟨50, _⟩ => ⟨S16x2048x64, .f32⟩
  | .hbm, ⟨51, _⟩ => ⟨S_, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1x1, .f32⟩
  | .hbm, ⟨66, _⟩ => ⟨S16x64x2048, .f32⟩
  | .hbm, ⟨67, _⟩ => ⟨S1x1, .f32⟩
  | _, _ => ⟨S16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]
-- ==== Proof.RefRun.lean ====
/-
  The run of the reference program, at the extended reals. The program is a straight line of host operations (two of its
  calls, the arg-min and the one-hot coding, written out in place), so its run is the fold of the operations over the
  launch contents. The fold is read at the four result buffers as the functions of the two arguments named below.
-/
module

public import proofs.«01_k».proof.Defs
public import proofs.«01_k».proof.Proof.Gen.ReferenceIdeal
public import Idealize.ShloMosaic.Lib.StableHlo.Run
public import Idealize.ShloMosaic.Adequacy
public import Idealize.ShloMosaic.Init
public import Idealize.ShloMosaic.Lib.Quiescent

@[expose] public section

noncomputable section

namespace Cert.Vq.Ref

open Cert.ReferenceIdeal Cert.ReferenceIdeal.Gen
open Idealize.ShloMosaic Idealize.ShloMosaic.TcCoe Idealize.ShloMosaic.StableHlo Idealize.SL.Sem

/-- The inputs with the channel axis last. -/
def chanLast (x : FVec Ideal S16x64x2048 .f32) : FVec Ideal S16x2048x64 .f32 :=
  transpose S16x2048x64 [0, 2, 1] x transposes_S16x64x2048_S16x2048x64_0_2_1

/-- One row of 64 channels per token. -/
def flat (x : FVec Ideal S16x64x2048 .f32) : FVec Ideal S32768x64 .f32 :=
  shapeCast S32768x64 (chanLast x) shapeCasts_S16x2048x64_S32768x64

/-- The table of distances between tokens and code vectors, as the reference expands it. -/
def dist (x : FVec Ideal S16x64x2048 .f32) (e : FVec Ideal S1024x64 .f32) : FVec Ideal S32768x1024 .f32 :=
  subf
    (addf
      (broadcastInDim S32768x1024 ![0, 1] bcast_S32768x1_S32768x1024_0_1
        (broadcastInDim S32768x1 ![0] bcast_S32768_S32768x1_0
          (Host.reduceAdd (mulf (flat x) (flat x)) (constant S_ .f32 0x00000000#32) reducesTo_S32768x64_S32768_d1 h_S_)))
      (broadcastInDim S32768x1024 ![0, 1] bcast_S1x1024_S32768x1024_0_1
        (broadcastInDim S1x1024 ![1] bcast_S1024_S1x1024_1
          (Host.reduceAdd (mulf e e) (constant S_ .f32 0x00000000#32) reducesTo_S1024x64_S1024_d1 h_S_))))
    (mulf (broadcastInDim S32768x1024 ![] bcast_S_S32768x1024 (constant S_ .f32 0x40000000#32))
      (Host.dotGeneral dot_S32768x64_S64x1024_S32768x1024_1_0_0_1_n_n none (flat x)
        (transpose S64x1024 [1, 0] e transposes_S1024x64_S64x1024_1_0)))

/-- The second parts of a family of pairs. -/
def seconds {ι α β : Type} (f : ι → α × β) (j : ι) : β := (f j).2

/-- The second part of a known pair. -/
theorem seconds_at {ι α β : Type} (f : ι → α × β) (j : ι) (p : α × β) (h : f j = p) : seconds f j = p.2 :=
  congrArg Prod.snd h

/-- Each row's arg-min. -/
def argmin (d : FVec Ideal S32768x1024 .f32) : IVec S32768 32 :=
  seconds (Host.argReduce reducer_argmin_f32_i32 d (iotaInDim S32768x1024 32 1) (constant S_ .f32 0x7F800000#32)
    (constantI S_ 32 0#32) reducesTo_S32768x1024_S32768_d1 h_S_)

/-- The one-hot coding of a list of codes. -/
def oneHot (i : IVec S32768 32) : FVec Ideal S32768x1024 .f32 :=
  uitofp .f32 (cmpi .eq
    (broadcastInDim S32768x1024 ![0, 1] bcast_S32768x1_S32768x1024_0_1
      (broadcastInDim S32768x1 ![0] bcast_S32768_S32768x1_0 i))
    (broadcastInDim S32768x1024 ![0, 1] bcast_S1x1024_S32768x1024_0_1 (iotaInDim S1x1024 32 1)))

/-- The encodings. -/
def enc (x : FVec Ideal S16x64x2048 .f32) (e : FVec Ideal S1024x64 .f32) : FVec Ideal S32768x1024 .f32 :=
  oneHot (argmin (dist x e))

/-- The quantised vectors of a coding, by batch, token and channel. -/
def quant (h : FVec Ideal S32768x1024 .f32) (e : FVec Ideal S1024x64 .f32) : FVec Ideal S16x2048x64 .f32 :=
  shapeCast S16x2048x64 (Host.dotGeneral dot_S32768x1024_S1024x64_S32768x64_1_0_0_1_n_n none h e)
    shapeCasts_S32768x64_S16x2048x64

/-- The mean squared error of quantised vectors against inputs. -/
def mse (q y : FVec Ideal S16x2048x64 .f32) : FVec Ideal S_ .f32 :=
  Host.divf (Host.reduceAdd (mulf (subf q y) (subf q y)) (constant S_ .f32 0x00000000#32)
    reducesTo_S16x2048x64_S_d0_1_2 h_S_) (constant S_ .f32 0x4A000000#32)

/-- The loss: the codebook part and a quarter of the commitment part. -/
def lossOf (q y : FVec Ideal S16x2048x64 .f32) : FVec Ideal S1x1 .f32 :=
  shapeCast S1x1 (addf (mse q y) (mulf (constant S_ .f32 0x3E800000#32) (mse q y))) shapeCasts_S_S1x1

/-- The straight-through output, with the channel axis back in the middle. -/
def stOf (q y : FVec Ideal S16x2048x64 .f32) : FVec Ideal S16x64x2048 .f32 :=
  transpose S16x64x2048 [0, 2, 1] (addf y (subf q y)) transposes_S16x2048x64_S16x64x2048_0_2_1

/-- How often each code is used, as a share of the tokens. -/
def avgOf (h : FVec Ideal S32768x1024 .f32) : FVec Ideal S1024 .f32 :=
  Host.divf (Host.reduceAdd h (constant S_ .f32 0x00000000#32) reducesTo_S32768x1024_S1024_d0 h_S_)
    (broadcastInDim S1024 ![] bcast_S_S1024 (constant S_ .f32 0x47000000#32))

/-- The perplexity of a coding. -/
def perpOf (h : FVec Ideal S32768x1024 .f32) : FVec Ideal S1x1 .f32 :=
  shapeCast S1x1 (Host.exp (Host.negf (Host.reduceAdd
    (mulf (avgOf h) (Host.log (addf (avgOf h)
      (broadcastInDim S1024 ![] bcast_S_S1024 (constant S_ .f32 0x2EDBE6FF#32)))))
    (constant S_ .f32 0x00000000#32) reducesTo_S1024_S_d0 h_S_))) shapeCasts_S_S1x1

/-- The operations up to the encodings, in order. -/
abbrev ops₁ : List (HloOp τ sig (Elt Ideal)) :=
  [ unary main_arg0 main_v0 (transpose S16x2048x64 [0, 2, 1] · transposes_S16x64x2048_S16x2048x64_0_2_1),
    reshape main_v0 main_v1 rfl shapeCasts_S16x2048x64_S32768x64,
    binary main_v1 main_v1 main_v2 (mulf (F := Ideal) (s := S32768x64) (φ := .f32)),
    nullary main_cst (constant (F := Ideal) S_ .f32 0x00000000#32),
    binary main_v2 main_cst main_v3 (fun (x : FVec Ideal S32768x64 .f32) (v : FVec Ideal S_ .f32) => Host.reduceAdd x v reducesTo_S32768x64_S32768_d1 h_S_),
    unary main_v3 main_v4 (broadcastInDim S32768x1 ![0] bcast_S32768_S32768x1_0),
    binary main_arg1 main_arg1 main_v5 (mulf (F := Ideal) (s := S1024x64) (φ := .f32)),
    nullary main_cst_0 (constant (F := Ideal) S_ .f32 0x00000000#32),
    binary main_v5 main_cst_0 main_v6 (fun (x : FVec Ideal S1024x64 .f32) (v : FVec Ideal S_ .f32) => Host.reduceAdd x v reducesTo_S1024x64_S1024_d1 h_S_),
    unary main_v6 main_v7 (broadcastInDim S1x1024 ![1] bcast_S1024_S1x1024_1),
    unary main_v4 main_v8 (broadcastInDim S32768x1024 ![0, 1] bcast_S32768x1_S32768x1024_0_1),
    unary main_v7 main_v9 (broadcastInDim S32768x1024 ![0, 1] bcast_S1x1024_S32768x1024_0_1),
    binary main_v8 main_v9 main_v10 (addf (F := Ideal) (s := S32768x1024) (φ := .f32)),
    unary main_arg1 main_v11 (transpose S64x1024 [1, 0] · transposes_S1024x64_S64x1024_1_0),
    binary main_v1 main_v11 main_v12 (fun (l : FVec Ideal S32768x64 .f32) (r : FVec Ideal S64x1024 .f32) => Host.dotGeneral dot_S32768x64_S64x1024_S32768x1024_1_0_0_1_n_n none l r),
    nullary main_cst_1 (constant (F := Ideal) S_ .f32 0x40000000#32),
    unary main_cst_1 main_v13 (broadcastInDim S32768x1024 ![] bcast_S_S32768x1024),
    binary main_v13 main_v12 main_v14 (mulf (F := Ideal) (s := S32768x1024) (φ := .f32)),
    binary main_v10 main_v14 main_v15 (subf (F := Ideal) (s := S32768x1024) (φ := .f32)),
    nullary main_call0_v0 (iotaInDim S32768x1024 32 1),
    nullary main_call0_cst (constant (F := Ideal) S_ .f32 0x7F800000#32),
    nullary main_call0_c (constantI S_ 32 0#32),
    quaternary main_v15 main_call0_v0 main_call0_cst main_call0_c main_call0_v1_0 (fun (x : FVec Ideal S32768x1024 .f32) (y : IVec S32768x1024 32) (u : FVec Ideal S_ .f32) (v : IVec S_ 32) j => (Host.argReduce reducer_argmin_f32_i32 x y u v reducesTo_S32768x1024_S32768_d1 h_S_ j).1),
    quaternary main_v15 main_call0_v0 main_call0_cst main_call0_c main_v16 (fun (x : FVec Ideal S32768x1024 .f32) (y : IVec S32768x1024 32) (u : FVec Ideal S_ .f32) (v : IVec S_ 32) j => (Host.argReduce reducer_argmin_f32_i32 x y u v reducesTo_S32768x1024_S32768_d1 h_S_ j).2),
    unary main_v16 main_call1_v0 (broadcastInDim S32768x1 ![0] bcast_S32768_S32768x1_0),
    nullary main_call1_v1 (iotaInDim S1x1024 32 1),
    unary main_call1_v0 main_call1_v2 (broadcastInDim S32768x1024 ![0, 1] bcast_S32768x1_S32768x1024_0_1),
    unary main_call1_v1 main_call1_v3 (broadcastInDim S32768x1024 ![0, 1] bcast_S1x1024_S32768x1024_0_1),
    binary main_call1_v2 main_call1_v3 main_call1_v4 (cmpi .eq),
    unary main_call1_v4 main_v17 (uitofp (s := S32768x1024) (F := Ideal) .f32) ]

/-- The operations after the encodings, in order. -/
abbrev ops₂ : List (HloOp τ sig (Elt Ideal)) :=
  [ binary main_v17 main_arg1 main_v18 (fun (l : FVec Ideal S32768x1024 .f32) (r : FVec Ideal S1024x64 .f32) => Host.dotGeneral dot_S32768x1024_S1024x64_S32768x64_1_0_0_1_n_n none l r),
    reshape main_v18 main_v19 rfl shapeCasts_S32768x64_S16x2048x64,
    binary main_v19 main_v0 main_v20 (subf (F := Ideal) (s := S16x2048x64) (φ := .f32)),
    binary main_v20 main_v20 main_v21 (mulf (F := Ideal) (s := S16x2048x64) (φ := .f32)),
    nullary main_cst_2 (constant (F := Ideal) S_ .f32 0x00000000#32),
    binary main_v21 main_cst_2 main_v22 (fun (x : FVec Ideal S16x2048x64 .f32) (v : FVec Ideal S_ .f32) => Host.reduceAdd x v reducesTo_S16x2048x64_S_d0_1_2 h_S_),
    nullary main_cst_3 (constant (F := Ideal) S_ .f32 0x4A000000#32),
    binary main_v22 main_cst_3 main_v23 (Host.divf (F := Ideal) (s := S_) (φ := .f32)),
    binary main_v19 main_v0 main_v24 (subf (F := Ideal) (s := S16x2048x64) (φ := .f32)),
    binary main_v24 main_v24 main_v25 (mulf (F := Ideal) (s := S16x2048x64) (φ := .f32)),
    nullary main_cst_4 (constant (F := Ideal) S_ .f32 0x00000000#32),
    binary main_v25 main_cst_4 main_v26 (fun (x : FVec Ideal S16x2048x64 .f32) (v : FVec Ideal S_ .f32) => Host.reduceAdd x v reducesTo_S16x2048x64_S_d0_1_2 h_S_),
    nullary main_cst_5 (constant (F := Ideal) S_ .f32 0x4A000000#32),
    binary main_v26 main_cst_5 main_v27 (Host.divf (F := Ideal) (s := S_) (φ := .f32)),
    nullary main_cst_6 (constant (F := Ideal) S_ .f32 0x3E800000#32),
    binary main_cst_6 main_v23 main_v28 (mulf (F := Ideal) (s := S_) (φ := .f32)),
    binary main_v27 main_v28 main_v29 (addf (F := Ideal) (s := S_) (φ := .f32)),
    binary main_v19 main_v0 main_v30 (subf (F := Ideal) (s := S16x2048x64) (φ := .f32)),
    binary main_v0 main_v30 main_v31 (addf (F := Ideal) (s := S16x2048x64) (φ := .f32)),
    nullary main_cst_7 (constant (F := Ideal) S_ .f32 0x00000000#32),
    binary main_v17 main_cst_7 main_v32 (fun (x : FVec Ideal S32768x1024 .f32) (v : FVec Ideal S_ .f32) => Host.reduceAdd x v reducesTo_S32768x1024_S1024_d0 h_S_),
    nullary main_cst_8 (constant (F := Ideal) S_ .f32 0x47000000#32),
    unary main_cst_8 main_v33 (broadcastInDim S1024 ![] bcast_S_S1024),
    binary main_v32 main_v33 main_v34 (Host.divf (F := Ideal) (s := S1024) (φ := .f32)),
    nullary main_cst_9 (constant (F := Ideal) S_ .f32 0x2EDBE6FF#32),
    unary main_cst_9 main_v35 (broadcastInDim S1024 ![] bcast_S_S1024),
    binary main_v34 main_v35 main_v36 (addf (F := Ideal) (s := S1024) (φ := .f32)),
    unary main_v36 main_v37 (Host.log (F := Ideal) (s := S1024) (φ := .f32)),
    binary main_v34 main_v37 main_v38 (mulf (F := Ideal) (s := S1024) (φ := .f32)),
    nullary main_cst_10 (constant (F := Ideal) S_ .f32 0x00000000#32),
    binary main_v38 main_cst_10 main_v39 (fun (x : FVec Ideal S1024 .f32) (v : FVec Ideal S_ .f32) => Host.reduceAdd x v reducesTo_S1024_S_d0 h_S_),
    unary main_v39 main_v40 (Host.negf (F := Ideal) (s := S_) (φ := .f32)),
    unary main_v40 main_v41 (Host.exp (F := Ideal) (s := S_) (φ := .f32)),
    reshape main_v29 main_v42 rfl shapeCasts_S_S1x1,
    unary main_v31 main_v43 (transpose S16x64x2048 [0, 2, 1] · transposes_S16x2048x64_S16x64x2048_0_2_1),
    reshape main_v41 main_v44 rfl shapeCasts_S_S1x1 ]

/-- All of the program's operations. -/
abbrev ops : List (HloOp τ sig (Elt Ideal)) := ops₁ ++ ops₂

/-- The program is that straight line. -/
theorem main_eq (c : Dev nD) : main (F := Ideal) c = seq ops := rfl

/-- A fold over two lists is the second's after the first's. -/
theorem after_two (l₁ l₂ : List (HloOp τ sig (Elt Ideal))) (V : Valuation τ sig (Elt Ideal)) :
    after (l₁ ++ l₂) V = after l₂ (after l₁ V) := by
  induction l₁ generalizing V with
  | nil => rfl
  | cons a l ih => exact ih _

variable (V : Valuation τ sig (Elt Ideal))

/-- The first part leaves the encodings in their buffer. -/
theorem enc₁ : after ops₁ V (main_v17 : DevRef τ sig) = enc (V (main_arg0 : DevRef τ sig)) (V (main_arg1 : DevRef τ sig)) := by
  after_results
  rfl
/-- It leaves the inputs with channels last in their buffer. -/
theorem chan₁ : after ops₁ V (main_v0 : DevRef τ sig) = chanLast (V (main_arg0 : DevRef τ sig)) := by
  after_results
  rfl
/-- It does not write the first argument. -/
theorem arg0₁ : after ops₁ V (main_arg0 : DevRef τ sig) = V (main_arg0 : DevRef τ sig) := by
  after_results
/-- It does not write the second argument. -/
theorem arg1₁ : after ops₁ V (main_arg1 : DevRef τ sig) = V (main_arg1 : DevRef τ sig) := by
  after_results
/-- The second part does not write the encodings. -/
theorem enc₂ : after ops₂ V (main_v17 : DevRef τ sig) = V (main_v17 : DevRef τ sig) := by
  after_results
/-- It does not write the first argument. -/
theorem arg0₂ : after ops₂ V (main_arg0 : DevRef τ sig) = V (main_arg0 : DevRef τ sig) := by
  after_results
/-- It does not write the second argument. -/
theorem arg1₂ : after ops₂ V (main_arg1 : DevRef τ sig) = V (main_arg1 : DevRef τ sig) := by
  after_results
/-- The second part leaves the loss in its buffer. -/
theorem loss₂ : after ops₂ V (main_v42 : DevRef τ sig)
    = lossOf (quant (V (main_v17 : DevRef τ sig)) (V (main_arg1 : DevRef τ sig))) (V (main_v0 : DevRef τ sig)) := by
  after_results
  rfl
/-- The second part leaves the straight-through output in its buffer. -/
theorem st₂ : after ops₂ V (main_v43 : DevRef τ sig)
    = stOf (quant (V (main_v17 : DevRef τ sig)) (V (main_arg1 : DevRef τ sig))) (V (main_v0 : DevRef τ sig)) := by
  after_results
  rfl
/-- The second part leaves the perplexity in its buffer. -/
theorem perp₂ : after ops₂ V (main_v44 : DevRef τ sig) = perpOf (V (main_v17 : DevRef τ sig)) := by
  after_results
  rfl

/-- Nothing is scoped in this program: no buffer, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- Every operation touches the TensorCore's references only. -/
theorem ops_sub : (ops : List (HloOp τ sig (Elt Ideal))).Forall fun op => op.bufs ⊆ tcRefs τ sig := by
  exact ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., reshape_bufs_sub .., unary_bufs_sub .., reshape_bufs_sub ..⟩

/-- The reference's run: from any memory with zero counters every fair execution terminates, with the four results at the
    functions above of the two arguments, and the arguments unchanged. -/
theorem run_main (m : (ℓ : Loc nD τ sig) → Buf (Elt Ideal) ℓ) (ρ : Dev nD → PrngReg) :
    θ_run defs (onTc (τ := τ) (main (F := Ideal))) ⟨m, fun _ => 0, ρ⟩ fun r =>
      ∀ c : Dev nD,
        r.2.mem ((c.tc : Thread nD τ).loc main_v42)
            = lossOf (quant (enc (m ((c.tc : Thread nD τ).loc main_arg0)) (m ((c.tc : Thread nD τ).loc main_arg1)))
                (m ((c.tc : Thread nD τ).loc main_arg1))) (chanLast (m ((c.tc : Thread nD τ).loc main_arg0)))
        ∧ r.2.mem ((c.tc : Thread nD τ).loc main_v43)
            = stOf (quant (enc (m ((c.tc : Thread nD τ).loc main_arg0)) (m ((c.tc : Thread nD τ).loc main_arg1)))
                (m ((c.tc : Thread nD τ).loc main_arg1))) (chanLast (m ((c.tc : Thread nD τ).loc main_arg0)))
        ∧ r.2.mem ((c.tc : Thread nD τ).loc main_v44)
            = perpOf (enc (m ((c.tc : Thread nD τ).loc main_arg0)) (m ((c.tc : Thread nD τ).loc main_arg1)))
        ∧ r.2.mem ((c.tc : Thread nD τ).loc main_v17)
            = enc (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine (θ_run defs _ _).mono (fun r h c => ?_)
    (run_seq scopedRefs_eq scopedSems_eq defs main (fun _ => ops) main_eq (fun _ => ops_sub) m ρ)
  have e : ∀ b : Ref sig .tc, r.2.mem ((c.tc : Thread nD τ).loc b)
      = after ops₂ (after ops₁ (launchContents m c)) (Proc.devRef .tc b) := fun b => (h c b).trans (by rw [after_two])
  refine ⟨?_, ?_, ?_, ?_, ?_, ?_⟩
  · rw [e, loss₂, enc₁, chan₁, arg1₁]
  · rw [e, st₂, enc₁, chan₁, arg1₁]
  · rw [e, perp₂, enc₁]
  · rw [e, enc₂, enc₁]
  · rw [e, arg0₂, arg0₁]
  · rw [e, arg1₂, arg1₁]

/-- The reference's frame: its arguments end unchanged, and it declares no semaphore. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2.2.2, Idealize.ShloMosaic.sem_eq_zero_of_no_sems (by decide) r.2⟩)
    (run_main m ρ)

end Cert.Vq.Ref

end
-- ==== Proof.Body.lean ====
module

public import proofs.«01_k».proof.Proof.Gen.KernelIdeal.Value
public import Idealize.ShloMosaic.Lib.Pipeline.Value
public import Idealize.ShloMosaic.Lib.Tactic

/-!
# The words of the kernel's body

One grid point handles 512 tokens in eight subtiles of 64 tokens, each against the 1024 codes in
eight chunks of 128. The definitions below say once, for a subtile, what the kernel computes: the
distances of a chunk, the running minimum and the chunk it came from, the least distance, the
nearest code, the one-hot rows, the quantised tokens, and the sums over the subtiles.
-/

@[expose] public section
noncomputable section
namespace Cert.Vq.Ker
open Cert.KernelIdeal Cert.KernelIdeal.Gen
open Idealize.ShloMosaic Idealize.ShloMosaic.TcCoe Idealize.SL.Sem

variable {F : FTy → Type} [FloatOps F]

/-- Chunk `k` of the codes' axis of a subtile's products lies inside it. -/
theorem sliceM (k : Fin 8) : S64x1024.Slices ![0, 128 * k.val] S64x128 := by
  fin_cases k <;> decide
/-- Chunk `k` of the codes' squared norms lies inside them. -/
theorem sliceE (k : Fin 8) : S1x1024.Slices ![0, 128 * k.val] S1x128 := by
  fin_cases k <;> decide
/-- Subtile `s` of the point's products lies inside them. -/
theorem sliceTM (s : Fin 8) : S512x1024.Slices ![64 * s.val, 0] S64x1024 := by
  fin_cases s <;> decide
/-- Subtile `s` of the point's squared norms lies inside them. -/
theorem sliceTQ (s : Fin 8) : S512x1.Slices ![64 * s.val, 0] S64x1 := by
  fin_cases s <;> decide
/-- Subtile `s` of the point's tokens lies inside them. -/
theorem sliceTX (s : Fin 8) : S512x64.Slices ![64 * s.val, 0] S64x64 := by
  fin_cases s <;> decide

/-- The distances of a subtile's tokens to the codes of chunk `k`. -/
def dk (E : FVec F S1x1024 .f32) (M : FVec F S64x1024 .f32) (Q : FVec F S64x1 .f32) (k : Fin 8) :
    FVec F S64x128 .f32 :=
  subf (addf (broadcastTo S64x128 Q broadcasts_S64x1_S64x128)
      (broadcastTo S64x128 (extractStridedSlice S1x128 ![0, 128 * k.val] E (sliceE k))
        broadcasts_S1x128_S64x128))
    (extractStridedSlice S64x128 ![0, 128 * k.val] M (sliceM k))

/-- The running minimum over the first `n` chunks. -/
def rmin (d : Fin 8 → FVec F S64x128 .f32) : (n : Nat) → n ≤ 8 → FVec F S64x128 .f32
  | 0, _ => broadcast S64x128 (Scalar.ofBits .f32 0x7F800000#32)
  | n + 1, h => minimumf (rmin d n (Nat.le_of_succ_le h)) (d ⟨n, h⟩)

/-- The chunk the running minimum over the first `n` chunks first came from. -/
def runk (d : Fin 8 → FVec F S64x128 .f32) : (n : Nat) → n ≤ 8 → IVec S64x128 32
  | 0, _ => broadcast S64x128 0#32
  | n + 1, h =>
    select (cmpf .olt (d ⟨n, h⟩) (rmin d n (Nat.le_of_succ_le h)))
      (broadcast S64x128 (BitVec.ofNat 32 n)) (runk d n (Nat.le_of_succ_le h))

/-- The least distance of each token. -/
def dmin (d : Fin 8 → FVec F S64x128 .f32) : FVec F S64x1 .f32 :=
  shapeCast S64x1
    (multiReduction .minimumf [1] S64 (rmin d 8 (Nat.le_refl 8)) 0x7F800000#32
      reduces_S64x128_S64 (.inl rfl) rfl)
    shapeCasts_S64_S64x1

/-- The lanes' positions. -/
def lane : IVec S64x128 32 := iota .tc S64x128 32 [1] iota_S64x128_d1_w32

/-- The code each lane proposes: its own where the lane attains the token's minimum, 2048 elsewhere. -/
def cand (d : Fin 8 → FVec F S64x128 .f32) : IVec S64x128 32 :=
  select (cmpf .oeq (rmin d 8 (Nat.le_refl 8))
      (broadcastTo S64x128 (dmin d) broadcasts_S64x1_S64x128))
    (addi (muli (runk d 8 (Nat.le_refl 8)) (broadcast S64x128 128#32)) lane)
    (broadcast S64x128 2048#32)

/-- The nearest code of each token. -/
def near (d : Fin 8 → FVec F S64x128 .f32) : IVec S64x1 32 :=
  shapeCast S64x1
    (multiReductionI .minsi [1] S64 (cand d) 2147483647#32 reduces_S64x128_S64 rfl)
    shapeCasts_S64_S64x1

/-- Chunk `k` of the one-hot rows of the codes `i`. -/
def hotk (i : IVec S64x1 32) (k : Nat) : FVec F S64x128 .f32 :=
  sitofp .f32 (extui 32 (cmpi .eq (addi lane (broadcast S64x128 (BitVec.ofNat 32 (128 * k))))
    (broadcastTo S64x128 i broadcasts_S64x1_S64x128)) natLt_1_32)

/-- The one-hot rows of the codes `i`. -/
def hot (i : IVec S64x1 32) : FVec F S64x1024 .f32 :=
  concatenate S64x1024 1 [⟨S64x128, hotk i 0⟩, ⟨S64x128, hotk i 1⟩, ⟨S64x128, hotk i 2⟩,
    ⟨S64x128, hotk i 3⟩, ⟨S64x128, hotk i 4⟩, ⟨S64x128, hotk i 5⟩, ⟨S64x128, hotk i 6⟩,
    ⟨S64x128, hotk i 7⟩]
    concatenates_S64x128_S64x128_S64x128_S64x128_S64x128_S64x128_S64x128_S64x128_S64x1024_d1

/-- The column sums of one-hot rows, as a row. -/
def colSum (h : FVec F S64x1024 .f32) : FVec F S1x1024 .f32 :=
  shapeCast S1x1024
    (multiReduction .add [0] S1024 h 0x00000000#32 reduces_S64x1024_S1024 (.inl rfl) rfl)
    shapeCasts_S1024_S1x1024

/-- The quantised tokens of a subtile, channels first: `x + (onehot · codes - x)`, transposed. -/
def qtile (h : FVec F S64x1024 .f32) (B : FVec F S1024x64 .bf16) (X : FVec F S64x64 .f32) :
    FVec F S64x64 .f32 :=
  transpose S64x64 [1, 0]
    (addf X (subf (matmul dot_S64x1024_S1024x64_S64x64_1_0_0_1_n_n none
      (truncf .bf16 h bitsLt_bf16_f32) B (constant S64x64 .f32 0x00000000#32)) X))
    transposes_S64x64_p1_0_S64x64

/-- The distances of subtile `s` of a point: from the codes' squared norms `E`, the doubled codes
    `x2` and the block of inputs `x0`. -/
def dist (E : FVec F S1x1024 .f32) (x2 : FVec F S64x1024 .f32) (x0 : FVec F S1x64x512 .f32)
    (s : Fin 8) : Fin 8 → FVec F S64x128 .f32 :=
  dk E (extractStridedSlice S64x1024 ![64 * s.val, 0] (k0_pay9 x2 x0) (sliceTM s))
    (extractStridedSlice S64x1 ![64 * s.val, 0] (k0_pay10 x0) (sliceTQ s))

/-- The one-hot rows of subtile `s`. -/
def hotT (E : FVec F S1x1024 .f32) (x2 : FVec F S64x1024 .f32) (x0 : FVec F S1x64x512 .f32)
    (s : Fin 8) : FVec F S64x1024 .f32 :=
  hot (near (dist E x2 x0 s))

/-- The quantised tokens of subtile `s`. -/
def qT (E : FVec F S1x1024 .f32) (x2 : FVec F S64x1024 .f32) (x1 : FVec F S1024x64 .bf16)
    (x0 : FVec F S1x64x512 .f32) (s : Fin 8) : FVec F S64x64 .f32 :=
  qtile (hotT E x2 x0 s) x1 (extractStridedSlice S64x64 ![64 * s.val, 0] (k0_pay8 x0) (sliceTX s))

/-- The code counts over the first `n` subtiles. -/
def histAcc (E : FVec F S1x1024 .f32) (x2 : FVec F S64x1024 .f32) (x0 : FVec F S1x64x512 .f32) :
    (n : Nat) → n ≤ 8 → FVec F S1x1024 .f32
  | 0, _ => broadcast S1x1024 (Scalar.ofBits .f32 0x00000000#32)
  | n + 1, h => addf (histAcc E x2 x0 n (Nat.le_of_succ_le h)) (colSum (hotT E x2 x0 ⟨n, h⟩))

/-- The sums of least distances over the first `n` subtiles. -/
def sseAcc (E : FVec F S1x1024 .f32) (x2 : FVec F S64x1024 .f32) (x0 : FVec F S1x64x512 .f32) :
    (n : Nat) → n ≤ 8 → FVec F S64x1 .f32
  | 0, _ => broadcast S64x1 (Scalar.ofBits .f32 0x00000000#32)
  | n + 1, h => addf (sseAcc E x2 x0 n (Nat.le_of_succ_le h)) (dmin (dist E x2 x0 ⟨n, h⟩))

/-- The counts after a point, from the counts `H` before it. -/
def histNext (E : FVec F S1x1024 .f32) (x2 : FVec F S64x1024 .f32) (x0 : FVec F S1x64x512 .f32)
    (H : FVec F S1x1024 .f32) : FVec F S1x1024 .f32 :=
  addf H (histAcc E x2 x0 8 (Nat.le_refl 8))

/-- The sums of least distances after a point, from the sums `S` before it. -/
def sseNext (E : FVec F S1x1024 .f32) (x2 : FVec F S64x1024 .f32) (x0 : FVec F S1x64x512 .f32)
    (S : FVec F S64x1 .f32) : FVec F S64x1 .f32 :=
  addf S (sseAcc E x2 x0 8 (Nat.le_refl 8))

/-- The block of quantised inputs of a point. -/
def qBlock (E : FVec F S1x1024 .f32) (x2 : FVec F S64x1024 .f32) (x1 : FVec F S1024x64 .bf16)
    (x0 : FVec F S1x64x512 .f32) : FVec F S1x64x512 .f32 :=
  shapeCast S1x64x512
    (concatenate S64x512 1 [⟨S64x64, qT E x2 x1 x0 0⟩, ⟨S64x64, qT E x2 x1 x0 1⟩,
      ⟨S64x64, qT E x2 x1 x0 2⟩, ⟨S64x64, qT E x2 x1 x0 3⟩, ⟨S64x64, qT E x2 x1 x0 4⟩,
      ⟨S64x64, qT E x2 x1 x0 5⟩, ⟨S64x64, qT E x2 x1 x0 6⟩, ⟨S64x64, qT E x2 x1 x0 7⟩]
      concatenates_S64x64_S64x64_S64x64_S64x64_S64x64_S64x64_S64x64_S64x64_S64x512_d1)
    shapeCasts_S64x512_S1x64x512

end Cert.Vq.Ker
-- ==== Proof.First.lean ====
module

public import proofs.«01_k».proof.Proof.Body
public import proofs.«01_k».proof.Proof.RefRun
public import Idealize.ShloMosaic.Lib.Pointwise

/-!
# The first least entry of a row

What "arg-min" means here: the first index at which a row is least. The kernel's search (a running
minimum over chunks, then a minimum over lanes of the proposed codes) and the reference's fold of
(value, index) pairs both find it.
-/

@[expose] public section
noncomputable section
namespace Cert.Vq
open Idealize.ShloMosaic Idealize.ShloMosaic.TcCoe Idealize.SL.Sem
open Pointwise

/-- `i` is the first index at which `d` is least. -/
def IsFirst {n : Nat} (d : Fin n → EReal) (i : Fin n) : Prop :=
  (∀ k, d i ≤ d k) ∧ ∀ k, k < i → d i < d k

/-- There is at most one first least index. -/
theorem IsFirst.unique {n : Nat} {d : Fin n → EReal} {i j : Fin n} (hi : IsFirst d i) (hj : IsFirst d j) :
    i = j := by
  rcases lt_trichotomy i j with h | h | h
  · exact absurd (hj.2 i h) (not_lt.mpr (hi.1 j))
  · exact h
  · exact absurd (hi.2 j h) (not_lt.mpr (hj.1 i))

/-- A nonempty row has a first least index. -/
theorem exists_isFirst (d : Fin 1024 → EReal) : ∃ i, IsFirst d i := by
  obtain ⟨i0, h0⟩ := Finite.exists_min d
  obtain ⟨i, hi, hmin⟩ := WellFounded.has_min (α := Fin 1024) wellFounded_lt {i | ∀ k, d i ≤ d k} ⟨i0, h0⟩
  refine ⟨i, hi, fun k hk => ?_⟩
  rcases lt_or_eq_of_le (hi k) with h | h
  · exact h
  · exact absurd hk (hmin k (fun l => h ▸ hi l))

/-- The first index at which `d` is least. -/
def first (d : Fin 1024 → EReal) : Fin 1024 := Classical.choose (exists_isFirst d)

/-- It is what its name says. -/
theorem first_isFirst (d : Fin 1024 → EReal) : IsFirst d (first d) := Classical.choose_spec (exists_isFirst d)

/-- A fold of the signed minimum is a value that occurs and bounds the others. -/
theorem fold_minsi {α : Type} (s : Finset α) (f : α → BitVec 32) (b v : BitVec 32) (a : α) (ha : a ∈ s)
    (hv : f a = v) (hb : v.toInt ≤ b.toInt) (hs : ∀ x ∈ s, v.toInt ≤ (f x).toInt) :
    Finset.fold IntOp.minsi b f s = v := by
  have hh : ∀ x y : BitVec 32, (IntOp.minsi x y).toInt = min x.toInt y.toInt := by
    intro x y
    unfold IntOp.minsi
    by_cases h : x.slt y
    · rw [if_pos h, min_eq_left]
      exact le_of_lt (by simpa [BitVec.slt] using h)
    · rw [if_neg h, min_eq_right]
      exact not_lt.mp (by simpa [BitVec.slt] using h)
  have hf : ∀ t : Finset α, (Finset.fold IntOp.minsi b f t).toInt
      = Finset.fold min b.toInt (fun x => (f x).toInt) t := by
    intro t
    exact (Finset.fold_hom (op := IntOp.minsi) (op' := min) (m := BitVec.toInt) (f := f) (b := b) (s := t)
      (fun x y => hh x y)).symm
  apply BitVec.eq_of_toInt_eq
  rw [hf]
  apply le_antisymm
  · exact Finset.fold_min_le _ |>.mpr (Or.inr ⟨a, ha, by rw [hv]⟩)
  · exact Finset.le_fold_min _ |>.mpr ⟨hb, hs⟩

/-- The word of a small number, signed. -/
theorem toInt_ofNat {n : Nat} (h : n < 2 ^ 31) : (BitVec.ofNat 32 n).toInt = n := by
  rw [BitVec.toInt_eq_toNat_cond, BitVec.toNat_ofNat]
  omega

/-- The word of the running minimum's start is infinity. -/
theorem ofBits_inf : Ideal.ofBits .f32 0x7F800000#32 = ⊤ := by
  simp [Ideal.ofBits, Ideal.ieee]

namespace Ker
open Cert.KernelIdeal Cert.KernelIdeal.Gen
set_option maxRecDepth 16384

/-- What the running minimum and its chunk are after `n` chunks, at a row and a lane. -/
theorem run_spec (d : Fin 8 → FVec Ideal S64x128 .f32) (r : Fin 64) (l : Fin 128) :
    ∀ (n : Nat) (h : n ≤ 8),
      (∀ k : Fin 8, k.val < n → (rmin d n h (ix2 r l) : EReal) ≤ d k (ix2 r l)) ∧
      ∃ K : Fin 8, runk d n h (ix2 r l) = BitVec.ofNat 32 K.val ∧
        ((K.val = 0 ∧ (rmin d n h (ix2 r l) : EReal) = ⊤) ∨
          (K.val < n ∧ (d K (ix2 r l) : EReal) = rmin d n h (ix2 r l) ∧
            ∀ k : Fin 8, k < K → (rmin d n h (ix2 r l) : EReal) < d k (ix2 r l)))
  | 0, h => by
    refine ⟨fun k hk => absurd hk (Nat.not_lt_zero _), 0, ?_, Or.inl ⟨rfl, ?_⟩⟩
    · rfl
    · rw [rmin]
      pointwise []
      exact ofBits_inf
  | n + 1, h => by
    obtain ⟨hle, K, hK, hcase⟩ := run_spec d r l n (Nat.le_of_succ_le h)
    have e1 : (rmin d (n + 1) h (ix2 r l) : EReal)
        = min (rmin d n (Nat.le_of_succ_le h) (ix2 r l)) (d ⟨n, h⟩ (ix2 r l)) := by
      rw [rmin]
      pointwise []
    have e2 : runk d (n + 1) h (ix2 r l)
        = if (d ⟨n, h⟩ (ix2 r l) : EReal) < rmin d n (Nat.le_of_succ_le h) (ix2 r l) then BitVec.ofNat 32 n
          else runk d n (Nat.le_of_succ_le h) (ix2 r l) := by
      rw [runk]
      pointwise []
    rw [e1, e2]
    by_cases hlt : (d ⟨n, h⟩ (ix2 r l) : EReal) < rmin d n (Nat.le_of_succ_le h) (ix2 r l)
    · rw [if_pos hlt, min_eq_right hlt.le]
      refine ⟨fun k hk => ?_, ⟨n, h⟩, rfl, Or.inr ⟨Nat.lt_succ_self n, rfl, fun k hk => ?_⟩⟩
      · rcases Nat.lt_succ_iff_lt_or_eq.mp hk with hk | hk
        · exact hlt.le.trans (hle k hk)
        · have : k = ⟨n, h⟩ := Fin.ext hk
          rw [this]
      · exact hlt.trans_le (hle k hk)
    · rw [if_neg hlt, min_eq_left (not_lt.mp hlt)]
      refine ⟨fun k hk => ?_, K, hK, hcase.imp_right fun hc => ⟨Nat.lt_succ_of_lt hc.1, hc.2⟩⟩
      rcases Nat.lt_succ_iff_lt_or_eq.mp hk with hk | hk
      · exact hle k hk
      · have : k = ⟨n, h⟩ := Fin.ext hk
        rw [this]
        exact not_lt.mp hlt

/-- After all eight chunks the running minimum is the first least entry of its lane. -/
theorem run_first (d : Fin 8 → FVec Ideal S64x128 .f32) (r : Fin 64) (l : Fin 128) :
    ∃ K : Fin 8, runk d 8 (Nat.le_refl 8) (ix2 r l) = BitVec.ofNat 32 K.val ∧
      (d K (ix2 r l) : EReal) = rmin d 8 (Nat.le_refl 8) (ix2 r l) ∧
      IsFirst (fun k : Fin 8 => (d k (ix2 r l) : EReal)) K := by
  obtain ⟨hle, K, hK, hcase⟩ := run_spec d r l 8 (Nat.le_refl 8)
  have hle' : ∀ k : Fin 8, (rmin d 8 (Nat.le_refl 8) (ix2 r l) : EReal) ≤ d k (ix2 r l) := fun k => hle k k.isLt
  rcases hcase with ⟨h0, htop⟩ | ⟨_, he, hlt⟩
  · have hall : ∀ k : Fin 8, (d k (ix2 r l) : EReal) = ⊤ := fun k => top_le_iff.mp (htop ▸ hle' k)
    refine ⟨K, hK, by rw [hall K, htop], fun k => ?_, fun k hk => absurd hk ?_⟩
    · simp only [hall]; exact le_refl _
    · rw [Fin.lt_def, h0]; exact Nat.not_lt_zero _
  · exact ⟨K, hK, he, fun k => he.le.trans (hle' k), fun k hk => he.le.trans_lt (hlt k hk)⟩

/-- A row of distances, over all the codes. -/
def row (d : Fin 8 → FVec Ideal S64x128 .f32) (r : Fin 64) (j : Fin 1024) : EReal :=
  d ⟨j.val / 128, by omega⟩ (ix2 r ⟨j.val % 128, Nat.mod_lt _ (by omega)⟩)

/-- An entry of a chunk is the row's entry there. -/
theorem row_at (d : Fin 8 → FVec Ideal S64x128 .f32) (r : Fin 64) (k : Fin 8) (l : Fin 128) :
    row d r ⟨128 * k.val + l.val, by omega⟩ = d k (ix2 r l) := by
  unfold row
  have h1 : (⟨(128 * k.val + l.val) / 128, by omega⟩ : Fin 8) = k := Fin.ext (by simp only []; omega)
  have h2 : (⟨(128 * k.val + l.val) % 128, Nat.mod_lt _ (by omega)⟩ : Fin 128) = l := Fin.ext (by simp only []; omega)
  simp only [h1, h2]

/-- The least distance is the row's first least entry. -/
theorem dmin_at (d : Fin 8 → FVec Ideal S64x128 .f32) (r : Fin 64) (z : Fin 1) :
    (dmin d (ix2 r z) : EReal) = row d r (first (row d r)) := by
  have hf := first_isFirst (row d r)
  have e : (dmin d (ix2 r z) : EReal) = Finset.fold min (⊤ : EReal)
      (fun l : Fin 128 => (rmin d 8 (Nat.le_refl 8) (ix2 r l) : EReal)) Finset.univ := by
    pointwise [dmin]
    rw [ofBits_inf]
  rw [e]
  apply le_antisymm
  · refine (Finset.fold_min_le _).mpr (Or.inr ⟨⟨(first (row d r)).val % 128, Nat.mod_lt _ (by omega)⟩, Finset.mem_univ _, ?_⟩)
    obtain ⟨K, _, he, hK⟩ := run_first d r ⟨(first (row d r)).val % 128, Nat.mod_lt _ (by omega)⟩
    rw [← he]
    exact hK.1 ⟨(first (row d r)).val / 128, by omega⟩
  · refine (Finset.le_fold_min _).mpr ⟨le_top, fun l _ => ?_⟩
    obtain ⟨K, _, he, hK⟩ := run_first d r l
    rw [← he, ← row_at d r K l]
    exact hf.1 _

/-- The nearest code the kernel finds is the row's first least index. -/
theorem near_at (d : Fin 8 → FVec Ideal S64x128 .f32) (r : Fin 64) (z : Fin 1) :
    near d (ix2 r z) = BitVec.ofNat 32 (first (row d r)).val := by
  have hf := first_isFirst (row d r)
  have hc : ∀ l : Fin 128, ∃ K : Fin 8, IsFirst (fun k : Fin 8 => (d k (ix2 r l) : EReal)) K ∧
      cand d (ix2 r l) = if row d r ⟨128 * K.val + l.val, by omega⟩ = row d r (first (row d r))
        then BitVec.ofNat 32 (128 * K.val + l.val) else 2048#32 := by
    intro l
    obtain ⟨K, hK, he, hF⟩ := run_first d r l
    refine ⟨K, hF, ?_⟩
    have e : cand d (ix2 r l) = if (rmin d 8 (Nat.le_refl 8) (ix2 r l) : EReal) = dmin d (ix2 r 0) then
        IntOp.addi (IntOp.muli (runk d 8 (Nat.le_refl 8) (ix2 r l)) 128#32) (BitVec.ofNat 32 l.val) else 2048#32 := by
      pointwise [cand, lane]
    rw [e, hK, dmin_at, ← he, row_at]
    have : IntOp.addi (IntOp.muli (BitVec.ofNat 32 K.val) 128#32) (BitVec.ofNat 32 l.val)
        = BitVec.ofNat 32 (128 * K.val + l.val) := by
      unfold IntOp.addi IntOp.muli
      apply BitVec.eq_of_toNat_eq
      simp only [BitVec.toNat_add, BitVec.toNat_mul, BitVec.toNat_ofNat]
      omega
    rw [this]
  have e : near d (ix2 r z) = Finset.fold IntOp.minsi 2147483647#32 (fun l : Fin 128 => cand d (ix2 r l)) Finset.univ := by
    pointwise [near]
  rw [e]
  refine fold_minsi _ _ _ _ ⟨(first (row d r)).val % 128, Nat.mod_lt _ (by omega)⟩ (Finset.mem_univ _) ?_ ?_ ?_
  · obtain ⟨K, hF, hK⟩ := hc ⟨(first (row d r)).val % 128, Nat.mod_lt _ (by omega)⟩
    have hk : K = ⟨(first (row d r)).val / 128, by omega⟩ := by
      refine hF.unique ⟨fun k => ?_, fun k hk => ?_⟩
      · have := hf.1 ⟨128 * k.val + (first (row d r)).val % 128, by omega⟩
        rwa [row_at d r k ⟨(first (row d r)).val % 128, Nat.mod_lt _ (by omega)⟩] at this
      · have := hf.2 ⟨128 * k.val + (first (row d r)).val % 128, by omega⟩ (by
          rw [Fin.lt_def] at hk ⊢
          simp only [] at hk ⊢
          omega)
        rwa [row_at d r k ⟨(first (row d r)).val % 128, Nat.mod_lt _ (by omega)⟩] at this
    have hn : 128 * K.val + (first (row d r)).val % 128 = (first (row d r)).val := by
      rw [hk]; simp only []; omega
    rw [hK]
    simp only [hn, if_true]
  · rw [toInt_ofNat (by omega)]
    have : (2147483647#32).toInt = 2147483647 := by decide
    rw [this]
    omega
  · intro l _
    obtain ⟨K, hF, hK⟩ := hc l
    rw [hK, toInt_ofNat (by omega)]
    split
    · rename_i heq
      rw [toInt_ofNat (by omega)]
      by_contra hlt
      have := hf.2 ⟨128 * K.val + l.val, by omega⟩ (by rw [Fin.lt_def]; simp only []; omega)
      rw [heq] at this
      exact lt_irrefl _ this
    · have : (2048#32).toInt = 2048 := by decide
      rw [this]
      omega

end Ker
end Cert.Vq
-- ==== Proof.RefValue.lean ====
module

public import proofs.«01_k».proof.Proof.First

/-!
# The reference's results, entry by entry

The reference's four results read at an index: the one-hot rows of the nearest codes, the quantised
inputs, the loss and the perplexity.
-/

@[expose] public section
noncomputable section
namespace Cert.Vq
open Idealize.ShloMosaic Idealize.ShloMosaic.TcCoe Idealize.SL.Sem
open Pointwise
open Cert.ReferenceIdeal

/-- The word of two. -/
theorem ofBits_two : Ideal.ofBits .f32 0x40000000#32 = ((2 : ℝ) : EReal) := by
  simp [Ideal.ofBits, Ideal.ieee, -EReal.coe_mul]; norm_num

/-- The distance of a token from code `j`, as the reference expands it. -/
def dst (u : Fin 64 → EReal) (E : Fin 1024 → Fin 64 → EReal) (j : Fin 1024) : EReal :=
  ∑ c, u c * u c + ∑ c, E j c * E j c - ((2 : ℝ) : EReal) * ∑ c, u c * E j c

/-- The code nearest to a token. -/
def code (u : Fin 64 → EReal) (E : Fin 1024 → Fin 64 → EReal) : Fin 1024 := first (dst u E)

/-- Token `n` of the inputs. -/
def tok (x : FVec Ideal S16x64x2048 .f32) (n : Fin 32768) (c : Fin 64) : EReal :=
  x (ix3 ⟨n.val / 2048, by omega⟩ c ⟨n.val % 2048, Nat.mod_lt _ (by omega)⟩)

/-- The code vectors. -/
def em (e : FVec Ideal S1024x64 .f32) (j : Fin 1024) (c : Fin 64) : EReal := e (ix2 j c)

/-- The code of token `n`. -/
def codeOf (x : FVec Ideal S16x64x2048 .f32) (e : FVec Ideal S1024x64 .f32) (n : Fin 32768) : Fin 1024 :=
  code (tok x n) (em e)

/-- How many tokens have code `j`. -/
def cnt (x : FVec Ideal S16x64x2048 .f32) (e : FVec Ideal S1024x64 .f32) (j : Fin 1024) : EReal :=
  ∑ n, if j = codeOf x e n then (1 : EReal) else 0

/-- The total squared error. -/
def sqErr (x : FVec Ideal S16x64x2048 .f32) (e : FVec Ideal S1024x64 .f32) : EReal :=
  ∑ n, ∑ c, (em e (codeOf x e n) c - tok x n c) * (em e (codeOf x e n) c - tok x n c)

namespace Ref

/-- The (value, index) pairs in the order the reference's reducer keeps them. -/
def Below (a b : EReal × BitVec 32) : Prop := a.1 < b.1 ∨ (a.1 = b.1 ∧ a.2.toInt ≤ b.2.toInt)

/-- The reducer keeps one of its operands, one that is below both. -/
theorem reducer_spec (a b : EReal × BitVec 32) :
    (reducer_argmin_f32_i32 (F := Ideal) a b = a ∧ Below a b) ∨
    (reducer_argmin_f32_i32 (F := Ideal) a b = b ∧ Below b a) := by
  obtain ⟨a1, a2⟩ := a
  obtain ⟨b1, b2⟩ := b
  have e : reducer_argmin_f32_i32 (F := Ideal) (a1, a2) (b1, b2)
      = (if a1 < b1 then a1 else b1, if a1 < b1 ∨ (a1 = b1 ∧ a2.toInt < b2.toInt) then a2 else b2) := by
    by_cases h1 : a1 < b1 <;> by_cases h2 : a1 = b1 <;> by_cases h3 : a2.toInt < b2.toInt <;>
      simp [reducer_argmin_f32_i32, Scalar.select, Ideal.cmpf_def, Ideal.cmp, IntOp.ori, IntOp.andi, IntOp.cmpi,
        BitVec.slt, h1, h2, h3]
  rw [e]
  unfold Below
  rcases lt_trichotomy a1 b1 with h | h | h
  · left; simp [h]
  · subst h
    by_cases h3 : a2.toInt < b2.toInt
    · left; simp [h3, h3.le]
    · right; simp [h3, not_lt.mp h3]
  · right; simp [h, not_lt.mpr h.le, h.ne']

/-- A fold of the reducer over a list ends at a pair that occurs in the list and is below all of it and
    below the start. -/
theorem fold_reducer (p : EReal × BitVec 32) :
    ∀ (L : List (EReal × BitVec 32)) (b : EReal × BitVec 32), Below p b → (∀ q ∈ L, Below p q) →
      (p = b ∨ p ∈ L) → L.foldl (reducer_argmin_f32_i32 (F := Ideal)) b = p
  | [], b, _, _, h => by
    rcases h with h | h
    · exact h.symm
    · simp at h
  | q :: L, b, hb, hL, h => by
    rw [List.foldl_cons]
    have anti : ∀ {u v : EReal × BitVec 32}, Below u v → Below v u → u = v := by
      intro u v huv hvu
      unfold Below at huv hvu
      rcases huv with h1 | ⟨h1, h2⟩
      · rcases hvu with h3 | ⟨h3, _⟩
        · exact absurd h3 (not_lt.mpr h1.le)
        · exact absurd h3 h1.ne'
      · rcases hvu with h3 | ⟨_, h4⟩
        · exact absurd h1 h3.ne'
        · exact Prod.ext h1 (BitVec.eq_of_toInt_eq (le_antisymm h2 h4))
    have hq := hL q (by simp)
    refine fold_reducer p L _ ?_ (fun q' h' => hL q' (by simp [h'])) ?_
    · rcases reducer_spec b q with ⟨h1, _⟩ | ⟨h1, _⟩ <;> rw [h1] <;> assumption
    · rcases reducer_spec b q with ⟨h1, h2⟩ | ⟨h1, h2⟩ <;> rw [h1]
      · rcases h with h | h
        · exact Or.inl h
        · rcases List.mem_cons.mp h with h | h
          · subst h; exact Or.inl (anti hb h2)
          · exact Or.inr h
      · rcases h with h | h
        · subst h; exact Or.inl (anti hq h2)
        · rcases List.mem_cons.mp h with h | h
          · exact Or.inl h
          · exact Or.inr h

/-- The arg-min reduction at an index is a pair that occurs among the entries reduced there and is below
    all of them and below the start. -/
theorem argReduce_of {s t u : Shape} {axes : List (Fin s.rank)} (d : FVec Ideal s .f32) (y : IVec s 32)
    (ix : FVec Ideal u .f32) (iy : IVec u 32) (h : s.ReducesTo axes t) (hu : 0 < u.numel) (j : t.Idx)
    (p : EReal × BitVec 32) (hb : Below p (ix (Shape.Idx.first hu), iy (Shape.Idx.first hu)))
    (hall : ∀ i, h.drop i = j → Below p (d i, y i)) (hex : ∃ i, h.drop i = j ∧ p = (d i, y i)) :
    Host.argReduce reducer_argmin_f32_i32 d y ix iy h hu j = p := by
  rw [Ideal.argReduce_eq_reduce2, Host.reduce2_eq_foldl_fiber]
  refine fold_reducer p _ _ hb ?_ ?_
  · intro q hq
    obtain ⟨m, hm, rfl⟩ := List.mem_map.mp hq
    exact hall _ (of_decide_eq_true (List.mem_filter.mp hm).2)
  · obtain ⟨i, hi, hp⟩ := hex
    right
    refine List.mem_map.mpr ⟨s.rowMajor i, List.mem_filter.mpr ⟨List.mem_finRange _, decide_eq_true ?_⟩, ?_⟩
    · rw [Equiv.symm_apply_apply, hi]
    · rw [Equiv.symm_apply_apply, hp]

/-- Which entries a row's reduction runs over. -/
theorem drop_iff (n : Fin 32768) (j : Fin 1024) (m : Fin 32768) :
    Gen.reducesTo_S32768x1024_S32768_d1.drop (ix2 n j) = ix1 m ↔ n = m := by
  constructor
  · intro h
    exact Fin.ext (Fin.mk.inj_iff.mp (congrFun h 0))
  · rintro rfl
    funext a
    fin_cases a
    rfl

set_option maxRecDepth 16384

/-- The reference's arg-min is the first least index of the row. -/
theorem argmin_at (d : FVec Ideal S32768x1024 .f32) (n : Fin 32768) :
    argmin d (ix1 n) = BitVec.ofNat 32 (first (fun j => (d (ix2 n j) : EReal))).val := by
  have hf := first_isFirst (fun j => (d (ix2 n j) : EReal))
  generalize first (fun j => (d (ix2 n j) : EReal)) = i at hf
  have key := argReduce_of d (iotaInDim S32768x1024 32 1) (constant S_ .f32 0x7F800000#32)
    (constantI S_ 32 0#32) Gen.reducesTo_S32768x1024_S32768_d1 Gen.h_S_ (ix1 n)
    ((d (ix2 n i) : EReal), BitVec.ofNat 32 i.val) ?_ ?_ ?_
  · exact seconds_at _ _ _ key
  · show Below _ ((Ideal.ofBits .f32 0x7F800000#32 : EReal), 0#32)
    rw [ofBits_inf]
    unfold Below
    rcases lt_or_eq_of_le (le_top (a := (d (ix2 n i) : EReal))) with h | h
    · exact Or.inl h
    · right
      refine ⟨h, ?_⟩
      have h0 : i.val = 0 := by
        by_contra h0
        have := hf.2 0 (by rw [Fin.lt_def]; exact Nat.pos_of_ne_zero h0)
        simp only [h] at this
        exact absurd this not_top_lt
      simp [h0]
  · intro q hq
    obtain ⟨a, j, rfl⟩ : ∃ a j, q = ix2 a j := ⟨_, _, eq_ix2 _⟩
    rw [drop_iff] at hq
    subst hq
    show Below _ ((d (ix2 a j) : EReal), BitVec.ofNat 32 j.val)
    unfold Below
    rcases lt_or_eq_of_le (hf.1 j) with h | h
    · exact Or.inl h
    · refine Or.inr ⟨h, ?_⟩
      rw [toInt_ofNat (by omega), toInt_ofNat (by omega)]
      by_contra hlt
      have := hf.2 j (by rw [Fin.lt_def]; omega)
      exact absurd h this.ne
  · exact ⟨ix2 n i, (drop_iff n i n).mpr rfl, rfl⟩

/-- The reference's distances. -/
theorem dist_at (x : FVec Ideal S16x64x2048 .f32) (e : FVec Ideal S1024x64 .f32) (n : Fin 32768) (j : Fin 1024) :
    (dist x e (ix2 n j) : EReal) = dst (tok x n) (em e) j := by
  pointwise [dist, flat, chanLast]
  rw [ofBits_two]
  rfl

/-- Small numbers' words differ when the numbers do. -/
theorem ofNat_eq_iff {a b : Nat} (ha : a < 2 ^ 31) (hb : b < 2 ^ 31) : BitVec.ofNat 32 a = BitVec.ofNat 32 b ↔ a = b := by
  constructor
  · intro h
    have := congrArg BitVec.toInt h
    rw [toInt_ofNat ha, toInt_ofNat hb] at this
    exact_mod_cast this
  · rintro rfl; rfl

/-- A one-hot entry is one exactly at its row's code. -/
theorem oneHot_at (i : IVec S32768 32) (n : Fin 32768) (k j : Fin 1024) (hk : i (ix1 n) = BitVec.ofNat 32 k.val) :
    (oneHot i (ix2 n j) : EReal) = if j = k then 1 else 0 := by
  pointwise [oneHot]
  rw [hk]
  unfold IntOp.cmpi
  by_cases h : j = k
  · subst h
    simp [FloatOps.uitofp]
  · have : ¬ BitVec.ofNat 32 k.val = BitVec.ofNat 32 j.val := by
      rw [ofNat_eq_iff (by omega) (by omega)]
      exact fun h' => h (Fin.ext h'.symm)
    simp [h, beq_eq_false_iff_ne.mpr this, FloatOps.uitofp]

/-- The encodings. -/
theorem enc_at (x : FVec Ideal S16x64x2048 .f32) (e : FVec Ideal S1024x64 .f32) (n : Fin 32768) (j : Fin 1024) :
    (enc x e (ix2 n j) : EReal) = if j = codeOf x e n then 1 else 0 := by
  have e1 : (fun j => (dist x e (ix2 n j) : EReal)) = dst (tok x n) (em e) := funext fun j => dist_at x e n j
  exact oneHot_at (argmin (dist x e)) n (codeOf x e n) j (by rw [argmin_at, e1]; rfl)

/-- The quantised vectors are the code vectors of the tokens' codes. -/
theorem quant_at (x : FVec Ideal S16x64x2048 .f32) (e : FVec Ideal S1024x64 .f32) (b : Fin 16) (t : Fin 2048) (c : Fin 64) :
    (quant (enc x e) e (ix3 b t c) : EReal) = em e (codeOf x e ⟨b.val * 2048 + t.val, by omega⟩) c := by
  pointwise [quant]
  rw [Finset.sum_eq_single (codeOf x e ⟨b.val * 2048 + t.val, by omega⟩)]
  · rw [enc_at, if_pos rfl, one_mul]; rfl
  · intro j _ hj
    rw [enc_at, if_neg hj, zero_mul]
  · intro h; exact absurd (Finset.mem_univ _) h

/-- The inputs by batch, token and channel. -/
theorem chanLast_at (x : FVec Ideal S16x64x2048 .f32) (b : Fin 16) (t : Fin 2048) (c : Fin 64) :
    (chanLast x (ix3 b t c) : EReal) = tok x ⟨b.val * 2048 + t.val, by omega⟩ c := by
  pointwise [chanLast]
  unfold tok
  congr 2
  · exact Fin.ext (by simp only []; omega)
  · exact Fin.ext (by simp only []; omega)

/-- The straight-through output. -/
theorem st_at (x : FVec Ideal S16x64x2048 .f32) (e : FVec Ideal S1024x64 .f32) (b : Fin 16) (c : Fin 64) (t : Fin 2048) :
    (stOf (quant (enc x e) e) (chanLast x) (ix3 b c t) : EReal)
      = x (ix3 b c t) + (em e (codeOf x e ⟨b.val * 2048 + t.val, by omega⟩) c - x (ix3 b c t)) := by
  pointwise [stOf, chanLast]
  rw [quant_at]

/-- A sum over batches and tokens is a sum over all tokens. -/
theorem sum_tokens (f : Fin 32768 → EReal) :
    ∑ b : Fin 16, ∑ t : Fin 2048, f ⟨b.val * 2048 + t.val, by omega⟩ = ∑ n, f n := by
  rw [← Fintype.sum_prod_type' (f := fun (b : Fin 16) (t : Fin 2048) => f ⟨b.val * 2048 + t.val, by omega⟩)]
  refine Fintype.sum_equiv (finProdFinEquiv (m := 16) (n := 2048)) _ _ fun p => ?_
  congr 1
  exact Fin.ext (by simp [finProdFinEquiv]; omega)

/-- The loss. -/
theorem loss_at (x : FVec Ideal S16x64x2048 .f32) (e : FVec Ideal S1024x64 .f32) (a b : Fin 1) :
    (lossOf (quant (enc x e) e) (chanLast x) (ix2 a b) : EReal)
      = Ideal.div (sqErr x e) (Ideal.ofBits .f32 0x4A000000#32)
        + Ideal.ofBits .f32 0x3E800000#32 * Ideal.div (sqErr x e) (Ideal.ofBits .f32 0x4A000000#32) := by
  have hs : ∑ b : Fin 16, ∑ t : Fin 2048, ∑ c : Fin 64,
      ((quant (enc x e) e (ix3 b t c) : EReal) - chanLast x (ix3 b t c))
        * ((quant (enc x e) e (ix3 b t c) : EReal) - chanLast x (ix3 b t c)) = sqErr x e := by
    unfold sqErr
    rw [← sum_tokens]
    refine Finset.sum_congr rfl fun b _ => Finset.sum_congr rfl fun t _ => Finset.sum_congr rfl fun c _ => ?_
    rw [quant_at, chanLast_at]
  generalize quant (enc x e) e = q at hs
  generalize chanLast x = y at hs
  pointwise [lossOf, mse]
  rw [hs]

/-- The perplexity. -/
theorem perp_at (x : FVec Ideal S16x64x2048 .f32) (e : FVec Ideal S1024x64 .f32) (a b : Fin 1) :
    (perpOf (enc x e) (ix2 a b) : EReal)
      = Ideal.exp (-∑ j, Ideal.div (cnt x e j) (Ideal.ofBits .f32 0x47000000#32) *
          Ideal.log (Ideal.div (cnt x e j) (Ideal.ofBits .f32 0x47000000#32) + Ideal.ofBits .f32 0x2EDBE6FF#32)) := by
  have hc : ∀ j, ∑ n : Fin 32768, (enc x e (ix2 n j) : EReal) = cnt x e j := fun j =>
    Finset.sum_congr rfl fun n _ => enc_at x e n j
  generalize enc x e = h at hc
  pointwise [perpOf, avgOf]
  simp only [hc]

end Ref
end Cert.Vq
-- ==== Proof.Opened.lean ====
module

public import proofs.«01_k».proof.Proof.Body

/-!
# The body's found stores, in the body's words

For each of the three kinds of grid point (the first, a middle one, the last) the values the body
leaves in each output block and in each buffer kept between points.
-/

@[expose] public section
noncomputable section
namespace Cert.Vq.Ker
open Cert.KernelIdeal Cert.KernelIdeal.Gen
open Idealize.ShloMosaic Idealize.ShloMosaic.TcCoe Idealize.SL.Sem

/-- The origin of a rank-two block. -/
theorem hz : (![0, 0] : Fin 2 → Nat) = fun _ => 0 := funext fun a => by fin_cases a <;> rfl
/-- The origin of a rank-three block. -/
theorem hz3 : (![0, 0, 0] : Fin 3 → Nat) = fun _ => 0 := funext fun a => by fin_cases a <;> rfl

variable {F : FTy → Type} [FloatOps F]

/-- The body reads the codes as they are. -/
theorem pay7 (x1 : FVec F S1024x64 .bf16) : k0_pay7 x1 = x1 := shapeCast_self _ _

set_option maxRecDepth 16384

/-- The eight stores of one-hot rows of a point, the last first. -/
def encPieces (E : FVec F S1x1024 .f32) (x2 : FVec F S64x1024 .f32) (x0 : FVec F S1x64x512 .f32) :
    List (View.Piece (Elt F) S512x1024 .f32) :=
  [⟨Rect.unit ![448, 0] ![64, 1024] inb_S512x1024_S64x1024_448_0, hotT E x2 x0 7⟩,
    ⟨Rect.unit ![384, 0] ![64, 1024] inb_S512x1024_S64x1024_384_0, hotT E x2 x0 6⟩,
    ⟨Rect.unit ![320, 0] ![64, 1024] inb_S512x1024_S64x1024_320_0, hotT E x2 x0 5⟩,
    ⟨Rect.unit ![256, 0] ![64, 1024] inb_S512x1024_S64x1024_256_0, hotT E x2 x0 4⟩,
    ⟨Rect.unit ![192, 0] ![64, 1024] inb_S512x1024_S64x1024_192_0, hotT E x2 x0 3⟩,
    ⟨Rect.unit ![128, 0] ![64, 1024] inb_S512x1024_S64x1024_128_0, hotT E x2 x0 2⟩,
    ⟨Rect.unit ![64, 0] ![64, 1024] inb_S512x1024_S64x1024_64_0, hotT E x2 x0 1⟩,
    ⟨Rect.unit ![0, 0] ![64, 1024] inb_S512x1024_S64x1024_0_0, hotT E x2 x0 0⟩]

variable (c : Dev nD) (i : grid0.Coords) (arg1 : Memref sig .tc .vmem S1x64x512 .f32)
    (harg1 : arg1.IsWhole) (arg2 : Memref sig .tc .vmem S1024x64 .bf16)
    (harg2 : arg2.IsWhole) (arg3 : Memref sig .tc .vmem S64x1024 .f32)
    (harg3 : arg3.IsWhole) (arg4 : Memref sig .tc .vmem S512x1024 .f32)
    (harg4 : arg4.IsWhole) (arg5 : Memref sig .tc .vmem S1x64x512 .f32)
    (harg5 : arg5.IsWhole) (arg6 : Memref sig .tc .smem S1x1 .f32)
    (harg6 : arg6.IsWhole) (arg7 : Memref sig .tc .smem S1x1 .f32)
    (harg7 : arg7.IsWhole) (arg8 : Memref sig .tc .vmem S1x1024 .f32)
    (harg8 : arg8.IsWhole) (arg9 : Memref sig .tc .vmem S1x1024 .f32)
    (harg9 : arg9.IsWhole) (arg10 : Memref sig .tc .vmem S64x1 .f32)
    (harg10 : arg10.IsWhole)

/-- The code counts the first point leaves. -/
theorem hist_A (hc0 : cond0_0 i) (hc1 : ¬cond0_1 i)
    (x0 : FVec F S1x64x512 .f32) (x1 : FVec F S1024x64 .bf16) (x2 : FVec F S64x1024 .f32) :
    sout0_A_0 c i arg1 harg1 arg2 harg2 arg3 harg3
      arg4 harg4 arg5 harg5 arg6 harg6 arg7 harg7 arg8 harg8 arg9 harg9 arg10 harg10
      hc0 hc1 x0 x1 x2 =
      histNext (k0_pay6 x2) x2 x0 k0_pay4 := by
  unfold sout0_A_0
  rw [View.read_writes_eq_canon _ _ _ (scover0_A_0 c i arg1 harg1 arg2 harg2 arg3 harg3
      arg4 harg4 arg5 harg5 arg6 harg6 arg7 harg7 arg8 harg8 arg9 harg9 arg10 harg10
      hc0 hc1 x0 x1 x2)]
  unfold kernelRun0_A
  dsimp only
  sl_unfold_words
  simp only [View.readAt_eq_ld, Memref.IsWhole.read_unread, View.ld_unit_zero (S := S64x1024) hz,
    View.ld_unit_zero (S := S1x1024) hz, View.ld_unit_zero (S := S1024x64) hz,
    View.ld_unit_zero (S := S64x1) hz, View.ld_unit_zero (S := S1x64x512) hz3, shapeCast_self]
  try simp only [View.readCov_unit_zero (S := S1x1024) _ hz, View.readCov_unit_zero (S := S64x1) _ hz,
    View.readCov_unit_zero (S := S64x1024) _ hz]
  rw [View.canon_cons_unit_zero hz]
  exact shapeCast_self _ _

/-- The squared norms of the codes the first point leaves. -/
theorem e2_A (hc0 : cond0_0 i) (hc1 : ¬cond0_1 i)
    (x0 : FVec F S1x64x512 .f32) (x1 : FVec F S1024x64 .bf16) (x2 : FVec F S64x1024 .f32) :
    sout0_A_1 c i arg1 harg1 arg2 harg2 arg3 harg3
      arg4 harg4 arg5 harg5 arg6 harg6 arg7 harg7 arg8 harg8 arg9 harg9 arg10 harg10
      hc0 hc1 x0 x1 x2 =
      k0_pay6 x2 := by
  unfold sout0_A_1
  rw [View.read_writes_eq_canon _ _ _ (scover0_A_1 c i arg1 harg1 arg2 harg2 arg3 harg3
      arg4 harg4 arg5 harg5 arg6 harg6 arg7 harg7 arg8 harg8 arg9 harg9 arg10 harg10
      hc0 hc1 x0 x1 x2)]
  unfold kernelRun0_A
  dsimp only
  sl_unfold_words
  simp only [View.readAt_eq_ld, Memref.IsWhole.read_unread, View.ld_unit_zero (S := S64x1024) hz,
    View.ld_unit_zero (S := S1x1024) hz, View.ld_unit_zero (S := S1024x64) hz,
    View.ld_unit_zero (S := S64x1) hz, View.ld_unit_zero (S := S1x64x512) hz3, shapeCast_self]
  exact View.canon_unit_zero hz _ _

/-- The sums of least distances the first point leaves. -/
theorem sse_A (hc0 : cond0_0 i) (hc1 : ¬cond0_1 i)
    (x0 : FVec F S1x64x512 .f32) (x1 : FVec F S1024x64 .bf16) (x2 : FVec F S64x1024 .f32) :
    sout0_A_2 c i arg1 harg1 arg2 harg2 arg3 harg3
      arg4 harg4 arg5 harg5 arg6 harg6 arg7 harg7 arg8 harg8 arg9 harg9 arg10 harg10
      hc0 hc1 x0 x1 x2 =
      sseNext (k0_pay6 x2) x2 x0 k0_pay5 := by
  unfold sout0_A_2
  rw [View.read_writes_eq_canon _ _ _ (scover0_A_2 c i arg1 harg1 arg2 harg2 arg3 harg3
      arg4 harg4 arg5 harg5 arg6 harg6 arg7 harg7 arg8 harg8 arg9 harg9 arg10 harg10
      hc0 hc1 x0 x1 x2)]
  unfold kernelRun0_A
  dsimp only
  sl_unfold_words
  simp only [View.readAt_eq_ld, Memref.IsWhole.read_unread, View.ld_unit_zero (S := S64x1024) hz,
    View.ld_unit_zero (S := S1x1024) hz, View.ld_unit_zero (S := S1024x64) hz,
    View.ld_unit_zero (S := S64x1) hz, View.ld_unit_zero (S := S1x64x512) hz3, shapeCast_self]
  try simp only [View.readCov_unit_zero (S := S1x1024) _ hz, View.readCov_unit_zero (S := S64x1) _ hz,
    View.readCov_unit_zero (S := S64x1024) _ hz]
  rw [View.canon_cons_unit_zero hz]
  exact shapeCast_self _ _

/-- The block of one-hot rows the first point leaves. -/
theorem enc_A (hc0 : cond0_0 i) (hc1 : ¬cond0_1 i)
    (x0 : FVec F S1x64x512 .f32) (x1 : FVec F S1024x64 .bf16) (x2 : FVec F S64x1024 .f32) :
    out0_A_3 c i arg1 harg1 arg2 harg2 arg3 harg3
      arg4 harg4 arg5 harg5 arg6 harg6 arg7 harg7 arg8 harg8 arg9 harg9 arg10 harg10
      hc0 hc1 x0 x1 x2 =
      View.canon (encPieces (k0_pay6 x2) x2 x0) := by
  unfold out0_A_3
  rw [View.read_writes_eq_canon _ _ _ (cover0_A_3 c i arg1 harg1 arg2 harg2 arg3 harg3
      arg4 harg4 arg5 harg5 arg6 harg6 arg7 harg7 arg8 harg8 arg9 harg9 arg10 harg10
      hc0 hc1 x0 x1 x2)]
  unfold kernelRun0_A
  dsimp only
  sl_unfold_words
  simp only [View.readAt_eq_ld, Memref.IsWhole.read_unread, View.ld_unit_zero (S := S64x1024) hz,
    View.ld_unit_zero (S := S1x1024) hz, View.ld_unit_zero (S := S1024x64) hz,
    View.ld_unit_zero (S := S64x1) hz, View.ld_unit_zero (S := S1x64x512) hz3, shapeCast_self]
  try simp only [View.readCov_unit_zero (S := S1x1024) _ hz, View.readCov_unit_zero (S := S64x1) _ hz,
    View.readCov_unit_zero (S := S64x1024) _ hz]
  rfl

/-- The block of quantised inputs the first point leaves. -/
theorem qst_A (hc0 : cond0_0 i) (hc1 : ¬cond0_1 i)
    (x0 : FVec F S1x64x512 .f32) (x1 : FVec F S1024x64 .bf16) (x2 : FVec F S64x1024 .f32) :
    out0_A_4 c i arg1 harg1 arg2 harg2 arg3 harg3
      arg4 harg4 arg5 harg5 arg6 harg6 arg7 harg7 arg8 harg8 arg9 harg9 arg10 harg10
      hc0 hc1 x0 x1 x2 =
      qBlock (k0_pay6 x2) x2 x1 x0 := by
  unfold out0_A_4
  rw [View.read_writes_eq_canon _ _ _ (cover0_A_4 c i arg1 harg1 arg2 harg2 arg3 harg3
      arg4 harg4 arg5 harg5 arg6 harg6 arg7 harg7 arg8 harg8 arg9 harg9 arg10 harg10
      hc0 hc1 x0 x1 x2)]
  unfold kernelRun0_A
  dsimp only
  sl_unfold_words
  simp only [View.readAt_eq_ld, Memref.IsWhole.read_unread, View.ld_unit_zero (S := S64x1024) hz,
    View.ld_unit_zero (S := S1x1024) hz, View.ld_unit_zero (S := S1024x64) hz,
    View.ld_unit_zero (S := S64x1) hz, View.ld_unit_zero (S := S1x64x512) hz3, shapeCast_self]
  try simp only [View.readCov_unit_zero (S := S1x1024) _ hz, View.readCov_unit_zero (S := S64x1) _ hz,
    View.readCov_unit_zero (S := S64x1024) _ hz]
  rw [View.canon_unit_zero hz3, pay7]
  rfl

/-- The code counts a middle point leaves. -/
theorem hist_B (hc0 : ¬cond0_0 i) (hc1 : ¬cond0_1 i)
    (x0 : FVec F S1x64x512 .f32) (x1 : FVec F S1024x64 .bf16) (x2 : FVec F S64x1024 .f32)
    (xs0 xs1 : FVec F S1x1024 .f32) (xs2 : FVec F S64x1 .f32) :
    sout0_B_0 c i arg1 harg1 arg2 harg2 arg3 harg3
      arg4 harg4 arg5 harg5 arg6 harg6 arg7 harg7 arg8 harg8 arg9 harg9 arg10 harg10
      hc0 hc1 x0 x1 x2 xs0 xs1 xs2 =
      histNext xs1 x2 x0 xs0 := by
  unfold sout0_B_0
  rw [View.read_writes_eq_canon _ _ _ (scover0_B_0 c i arg1 harg1 arg2 harg2 arg3 harg3
      arg4 harg4 arg5 harg5 arg6 harg6 arg7 harg7 arg8 harg8 arg9 harg9 arg10 harg10
      hc0 hc1 x0 x1 x2 xs0 xs1 xs2)]
  unfold kernelRun0_B
  dsimp only
  sl_unfold_words
  simp only [View.readAt_eq_ld, Memref.IsWhole.read_unread, View.ld_unit_zero (S := S64x1024) hz,
    View.ld_unit_zero (S := S1x1024) hz, View.ld_unit_zero (S := S1024x64) hz,
    View.ld_unit_zero (S := S64x1) hz, View.ld_unit_zero (S := S1x64x512) hz3, shapeCast_self]
  try simp only [View.readCov_unit_zero (S := S1x1024) _ hz, View.readCov_unit_zero (S := S64x1) _ hz,
    View.readCov_unit_zero (S := S64x1024) _ hz]
  rw [View.canon_cons_unit_zero hz]
  exact shapeCast_self _ _

/-- The sums of least distances a middle point leaves. -/
theorem sse_B (hc0 : ¬cond0_0 i) (hc1 : ¬cond0_1 i)
    (x0 : FVec F S1x64x512 .f32) (x1 : FVec F S1024x64 .bf16) (x2 : FVec F S64x1024 .f32)
    (xs0 xs1 : FVec F S1x1024 .f32) (xs2 : FVec F S64x1 .f32) :
    sout0_B_2 c i arg1 harg1 arg2 harg2 arg3 harg3
      arg4 harg4 arg5 harg5 arg6 harg6 arg7 harg7 arg8 harg8 arg9 harg9 arg10 harg10
      hc0 hc1 x0 x1 x2 xs0 xs1 xs2 =
      sseNext xs1 x2 x0 xs2 := by
  unfold sout0_B_2
  rw [View.read_writes_eq_canon _ _ _ (scover0_B_2 c i arg1 harg1 arg2 harg2 arg3 harg3
      arg4 harg4 arg5 harg5 arg6 harg6 arg7 harg7 arg8 harg8 arg9 harg9 arg10 harg10
      hc0 hc1 x0 x1 x2 xs0 xs1 xs2)]
  unfold kernelRun0_B
  dsimp only
  sl_unfold_words
  simp only [View.readAt_eq_ld, Memref.IsWhole.read_unread, View.ld_unit_zero (S := S64x1024) hz,
    View.ld_unit_zero (S := S1x1024) hz, View.ld_unit_zero (S := S1024x64) hz,
    View.ld_unit_zero (S := S64x1) hz, View.ld_unit_zero (S := S1x64x512) hz3, shapeCast_self]
  try simp only [View.readCov_unit_zero (S := S1x1024) _ hz, View.readCov_unit_zero (S := S64x1) _ hz,
    View.readCov_unit_zero (S := S64x1024) _ hz]
  rw [View.canon_cons_unit_zero hz]
  exact shapeCast_self _ _

/-- The block of one-hot rows a middle point leaves. -/
theorem enc_B (hc0 : ¬cond0_0 i) (hc1 : ¬cond0_1 i)
    (x0 : FVec F S1x64x512 .f32) (x1 : FVec F S1024x64 .bf16) (x2 : FVec F S64x1024 .f32)
    (xs0 xs1 : FVec F S1x1024 .f32) (xs2 : FVec F S64x1 .f32) :
    out0_B_3 c i arg1 harg1 arg2 harg2 arg3 harg3
      arg4 harg4 arg5 harg5 arg6 harg6 arg7 harg7 arg8 harg8 arg9 harg9 arg10 harg10
      hc0 hc1 x0 x1 x2 xs0 xs1 xs2 =
      View.canon (encPieces xs1 x2 x0) := by
  unfold out0_B_3
  rw [View.read_writes_eq_canon _ _ _ (cover0_B_3 c i arg1 harg1 arg2 harg2 arg3 harg3
      arg4 harg4 arg5 harg5 arg6 harg6 arg7 harg7 arg8 harg8 arg9 harg9 arg10 harg10
      hc0 hc1 x0 x1 x2 xs0 xs1 xs2)]
  unfold kernelRun0_B
  dsimp only
  sl_unfold_words
  simp only [View.readAt_eq_ld, Memref.IsWhole.read_unread, View.ld_unit_zero (S := S64x1024) hz,
    View.ld_unit_zero (S := S1x1024) hz, View.ld_unit_zero (S := S1024x64) hz,
    View.ld_unit_zero (S := S64x1) hz, View.ld_unit_zero (S := S1x64x512) hz3, shapeCast_self]
  try simp only [View.readCov_unit_zero (S := S1x1024) _ hz, View.readCov_unit_zero (S := S64x1) _ hz,
    View.readCov_unit_zero (S := S64x1024) _ hz]
  rfl

/-- The block of quantised inputs a middle point leaves. -/
theorem qst_B (hc0 : ¬cond0_0 i) (hc1 : ¬cond0_1 i)
    (x0 : FVec F S1x64x512 .f32) (x1 : FVec F S1024x64 .bf16) (x2 : FVec F S64x1024 .f32)
    (xs0 xs1 : FVec F S1x1024 .f32) (xs2 : FVec F S64x1 .f32) :
    out0_B_4 c i arg1 harg1 arg2 harg2 arg3 harg3
      arg4 harg4 arg5 harg5 arg6 harg6 arg7 harg7 arg8 harg8 arg9 harg9 arg10 harg10
      hc0 hc1 x0 x1 x2 xs0 xs1 xs2 =
      qBlock xs1 x2 x1 x0 := by
  unfold out0_B_4
  rw [View.read_writes_eq_canon _ _ _ (cover0_B_4 c i arg1 harg1 arg2 harg2 arg3 harg3
      arg4 harg4 arg5 harg5 arg6 harg6 arg7 harg7 arg8 harg8 arg9 harg9 arg10 harg10
      hc0 hc1 x0 x1 x2 xs0 xs1 xs2)]
  unfold kernelRun0_B
  dsimp only
  sl_unfold_words
  simp only [View.readAt_eq_ld, Memref.IsWhole.read_unread, View.ld_unit_zero (S := S64x1024) hz,
    View.ld_unit_zero (S := S1x1024) hz, View.ld_unit_zero (S := S1024x64) hz,
    View.ld_unit_zero (S := S64x1) hz, View.ld_unit_zero (S := S1x64x512) hz3, shapeCast_self]
  try simp only [View.readCov_unit_zero (S := S1x1024) _ hz, View.readCov_unit_zero (S := S64x1) _ hz,
    View.readCov_unit_zero (S := S64x1024) _ hz]
  rw [View.canon_unit_zero hz3, pay7]
  rfl

/-- The code counts the last point leaves. -/
theorem hist_C (hc0 : ¬cond0_0 i) (hc1 : cond0_1 i)
    (x0 : FVec F S1x64x512 .f32) (x1 : FVec F S1024x64 .bf16) (x2 : FVec F S64x1024 .f32)
    (xs0 xs1 : FVec F S1x1024 .f32) (xs2 : FVec F S64x1 .f32) :
    sout0_C_0 c i arg1 harg1 arg2 harg2 arg3 harg3
      arg4 harg4 arg5 harg5 arg6 harg6 arg7 harg7 arg8 harg8 arg9 harg9 arg10 harg10
      hc0 hc1 x0 x1 x2 xs0 xs1 xs2 =
      histNext xs1 x2 x0 xs0 := by
  unfold sout0_C_0
  rw [View.read_writes_eq_canon _ _ _ (scover0_C_0 c i arg1 harg1 arg2 harg2 arg3 harg3
      arg4 harg4 arg5 harg5 arg6 harg6 arg7 harg7 arg8 harg8 arg9 harg9 arg10 harg10
      hc0 hc1 x0 x1 x2 xs0 xs1 xs2)]
  unfold kernelRun0_C
  dsimp only
  sl_unfold_words
  simp only [View.readAt_eq_ld, Memref.IsWhole.read_unread, View.ld_unit_zero (S := S64x1024) hz,
    View.ld_unit_zero (S := S1x1024) hz, View.ld_unit_zero (S := S1024x64) hz,
    View.ld_unit_zero (S := S64x1) hz, View.ld_unit_zero (S := S1x64x512) hz3, shapeCast_self]
  try simp only [View.readCov_unit_zero (S := S1x1024) _ hz, View.readCov_unit_zero (S := S64x1) _ hz,
    View.readCov_unit_zero (S := S64x1024) _ hz]
  rw [View.canon_cons_unit_zero hz]
  exact shapeCast_self _ _

/-- The sums of least distances the last point leaves. -/
theorem sse_C (hc0 : ¬cond0_0 i) (hc1 : cond0_1 i)
    (x0 : FVec F S1x64x512 .f32) (x1 : FVec F S1024x64 .bf16) (x2 : FVec F S64x1024 .f32)
    (xs0 xs1 : FVec F S1x1024 .f32) (xs2 : FVec F S64x1 .f32) :
    sout0_C_2 c i arg1 harg1 arg2 harg2 arg3 harg3
      arg4 harg4 arg5 harg5 arg6 harg6 arg7 harg7 arg8 harg8 arg9 harg9 arg10 harg10
      hc0 hc1 x0 x1 x2 xs0 xs1 xs2 =
      sseNext xs1 x2 x0 xs2 := by
  unfold sout0_C_2
  rw [View.read_writes_eq_canon _ _ _ (scover0_C_2 c i arg1 harg1 arg2 harg2 arg3 harg3
      arg4 harg4 arg5 harg5 arg6 harg6 arg7 harg7 arg8 harg8 arg9 harg9 arg10 harg10
      hc0 hc1 x0 x1 x2 xs0 xs1 xs2)]
  unfold kernelRun0_C
  dsimp only
  sl_unfold_words
  simp only [View.readAt_eq_ld, Memref.IsWhole.read_unread, View.ld_unit_zero (S := S64x1024) hz,
    View.ld_unit_zero (S := S1x1024) hz, View.ld_unit_zero (S := S1024x64) hz,
    View.ld_unit_zero (S := S64x1) hz, View.ld_unit_zero (S := S1x64x512) hz3, shapeCast_self]
  try simp only [View.readCov_unit_zero (S := S1x1024) _ hz, View.readCov_unit_zero (S := S64x1) _ hz,
    View.readCov_unit_zero (S := S64x1024) _ hz]
  rw [View.canon_cons_unit_zero hz]
  exact shapeCast_self _ _

/-- The block of one-hot rows the last point leaves. -/
theorem enc_C (hc0 : ¬cond0_0 i) (hc1 : cond0_1 i)
    (x0 : FVec F S1x64x512 .f32) (x1 : FVec F S1024x64 .bf16) (x2 : FVec F S64x1024 .f32)
    (xs0 xs1 : FVec F S1x1024 .f32) (xs2 : FVec F S64x1 .f32) :
    out0_C_3 c i arg1 harg1 arg2 harg2 arg3 harg3
      arg4 harg4 arg5 harg5 arg6 harg6 arg7 harg7 arg8 harg8 arg9 harg9 arg10 harg10
      hc0 hc1 x0 x1 x2 xs0 xs1 xs2 =
      View.canon (encPieces xs1 x2 x0) := by
  unfold out0_C_3
  rw [View.read_writes_eq_canon _ _ _ (cover0_C_3 c i arg1 harg1 arg2 harg2 arg3 harg3
      arg4 harg4 arg5 harg5 arg6 harg6 arg7 harg7 arg8 harg8 arg9 harg9 arg10 harg10
      hc0 hc1 x0 x1 x2 xs0 xs1 xs2)]
  unfold kernelRun0_C
  dsimp only
  sl_unfold_words
  simp only [View.readAt_eq_ld, Memref.IsWhole.read_unread, View.ld_unit_zero (S := S64x1024) hz,
    View.ld_unit_zero (S := S1x1024) hz, View.ld_unit_zero (S := S1024x64) hz,
    View.ld_unit_zero (S := S64x1) hz, View.ld_unit_zero (S := S1x64x512) hz3, shapeCast_self]
  try simp only [View.readCov_unit_zero (S := S1x1024) _ hz, View.readCov_unit_zero (S := S64x1) _ hz,
    View.readCov_unit_zero (S := S64x1024) _ hz]
  rfl

/-- The block of quantised inputs the last point leaves. -/
theorem qst_C (hc0 : ¬cond0_0 i) (hc1 : cond0_1 i)
    (x0 : FVec F S1x64x512 .f32) (x1 : FVec F S1024x64 .bf16) (x2 : FVec F S64x1024 .f32)
    (xs0 xs1 : FVec F S1x1024 .f32) (xs2 : FVec F S64x1 .f32) :
    out0_C_4 c i arg1 harg1 arg2 harg2 arg3 harg3
      arg4 harg4 arg5 harg5 arg6 harg6 arg7 harg7 arg8 harg8 arg9 harg9 arg10 harg10
      hc0 hc1 x0 x1 x2 xs0 xs1 xs2 =
      qBlock xs1 x2 x1 x0 := by
  unfold out0_C_4
  rw [View.read_writes_eq_canon _ _ _ (cover0_C_4 c i arg1 harg1 arg2 harg2 arg3 harg3
      arg4 harg4 arg5 harg5 arg6 harg6 arg7 harg7 arg8 harg8 arg9 harg9 arg10 harg10
      hc0 hc1 x0 x1 x2 xs0 xs1 xs2)]
  unfold kernelRun0_C
  dsimp only
  sl_unfold_words
  simp only [View.readAt_eq_ld, Memref.IsWhole.read_unread, View.ld_unit_zero (S := S64x1024) hz,
    View.ld_unit_zero (S := S1x1024) hz, View.ld_unit_zero (S := S1024x64) hz,
    View.ld_unit_zero (S := S64x1) hz, View.ld_unit_zero (S := S1x64x512) hz3, shapeCast_self]
  try simp only [View.readCov_unit_zero (S := S1x1024) _ hz, View.readCov_unit_zero (S := S64x1) _ hz,
    View.readCov_unit_zero (S := S64x1024) _ hz]
  rw [View.canon_unit_zero hz3, pay7]
  rfl

/-- The loss the last point leaves. -/
theorem loss_C (hc0 : ¬cond0_0 i) (hc1 : cond0_1 i)
    (x0 : FVec F S1x64x512 .f32) (x1 : FVec F S1024x64 .bf16) (x2 : FVec F S64x1024 .f32)
    (xs0 xs1 : FVec F S1x1024 .f32) (xs2 : FVec F S64x1 .f32) :
    out0_C_5 c i arg1 harg1 arg2 harg2 arg3 harg3
      arg4 harg4 arg5 harg5 arg6 harg6 arg7 harg7 arg8 harg8 arg9 harg9 arg10 harg10
      hc0 hc1 x0 x1 x2 xs0 xs1 xs2 =
      fun _ => k0_pay2 (sseNext xs1 x2 x0 xs2) := by
  unfold out0_C_5
  rw [View.read_writes_eq_canon _ _ _ (cover0_C_5 c i arg1 harg1 arg2 harg2 arg3 harg3
      arg4 harg4 arg5 harg5 arg6 harg6 arg7 harg7 arg8 harg8 arg9 harg9 arg10 harg10
      hc0 hc1 x0 x1 x2 xs0 xs1 xs2)]
  unfold kernelRun0_C
  dsimp only
  sl_unfold_words
  simp only [View.readAt_eq_ld, Memref.IsWhole.read_unread, View.ld_unit_zero (S := S64x1024) hz,
    View.ld_unit_zero (S := S1x1024) hz, View.ld_unit_zero (S := S1024x64) hz,
    View.ld_unit_zero (S := S64x1) hz, View.ld_unit_zero (S := S1x64x512) hz3, shapeCast_self]
  simp only [View.readCov_unit_zero (S := S1x1024) _ hz, View.readCov_unit_zero (S := S64x1) _ hz,
    View.readCov_unit_zero (S := S64x1024) _ hz]
  rw [View.canon_unit_zero hz]
  funext _
  exact congrArg k0_pay2 (shapeCast_self _ _)

/-- The perplexity the last point leaves. -/
theorem perp_C (hc0 : ¬cond0_0 i) (hc1 : cond0_1 i)
    (x0 : FVec F S1x64x512 .f32) (x1 : FVec F S1024x64 .bf16) (x2 : FVec F S64x1024 .f32)
    (xs0 xs1 : FVec F S1x1024 .f32) (xs2 : FVec F S64x1 .f32) :
    out0_C_6 c i arg1 harg1 arg2 harg2 arg3 harg3
      arg4 harg4 arg5 harg5 arg6 harg6 arg7 harg7 arg8 harg8 arg9 harg9 arg10 harg10
      hc0 hc1 x0 x1 x2 xs0 xs1 xs2 =
      fun _ => k0_pay3 (histNext xs1 x2 x0 xs0) := by
  unfold out0_C_6
  rw [View.read_writes_eq_canon _ _ _ (cover0_C_6 c i arg1 harg1 arg2 harg2 arg3 harg3
      arg4 harg4 arg5 harg5 arg6 harg6 arg7 harg7 arg8 harg8 arg9 harg9 arg10 harg10
      hc0 hc1 x0 x1 x2 xs0 xs1 xs2)]
  unfold kernelRun0_C
  dsimp only
  sl_unfold_words
  simp only [View.readAt_eq_ld, Memref.IsWhole.read_unread, View.ld_unit_zero (S := S64x1024) hz,
    View.ld_unit_zero (S := S1x1024) hz, View.ld_unit_zero (S := S1024x64) hz,
    View.ld_unit_zero (S := S64x1) hz, View.ld_unit_zero (S := S1x64x512) hz3, shapeCast_self]
  simp only [View.readCov_unit_zero (S := S1x1024) _ hz, View.readCov_unit_zero (S := S64x1) _ hz,
    View.readCov_unit_zero (S := S64x1024) _ hz]
  rw [View.canon_unit_zero hz]
  funext _
  exact congrArg k0_pay3 (shapeCast_self _ _)

end Cert.Vq.Ker
-- ==== Proof.KerValue.lean ====
module

public import proofs.«01_k».proof.Proof.RefValue
public import proofs.«01_k».proof.Proof.Opened
public import Idealize.ShloMosaic.Lib.Pipeline.Value

/-!
# The body's words, entry by entry

At a grid point whose blocks hold 512 tokens `u` and the codes `e` (doubled, as they are, and their
squared norms), the body's values read at an index: distances, one-hot rows, quantised tokens, counts
and sums of least distances.
-/

@[expose] public section
noncomputable section
namespace Cert.Vq.Ker
open Cert.KernelIdeal Cert.KernelIdeal.Gen
open Idealize.ShloMosaic Idealize.ShloMosaic.TcCoe Idealize.SL.Sem
open Pointwise
set_option maxRecDepth 16384

/-- The tokens of a block, one row each. -/
theorem xb_at (x0 : Vec Ideal S1x64x512 .f32) (r : Fin 512) (c : Fin 64) :
    (k0_pay8 x0 (ix2 r c) : EReal) = x0 (ix3 0 c r) := by
  pointwise [k0_pay8]
  split_ifs <;> (congr 2; try (exact Fin.ext (by simp only []; omega)))

/-- The word of a quarter. -/
theorem ofBits_quarter : Ideal.ofBits .f32 0x3E800000#32 = ((1 / 4 : ℝ) : EReal) := by
  simp [Ideal.ofBits, Ideal.ieee, -EReal.coe_mul]; norm_num
/-- The word of five quarters. -/
theorem ofBits_five_quarters : Ideal.ofBits .f32 0x3FA00000#32 = ((5 / 4 : ℝ) : EReal) := by
  simp [Ideal.ofBits, Ideal.ieee, -EReal.coe_mul]; norm_num
/-- The word of the number of input entries. -/
theorem ofBits_entries : Ideal.ofBits .f32 0x4A000000#32 = ((2097152 : ℝ) : EReal) := by
  simp [Ideal.ofBits, Ideal.ieee, -EReal.coe_mul]; norm_num
/-- The word of the number of tokens. -/
theorem ofBits_tokens : Ideal.ofBits .f32 0x47000000#32 = ((32768 : ℝ) : EReal) := by
  simp [Ideal.ofBits, Ideal.ieee, -EReal.coe_mul]; norm_num
/-- The word of one over the number of tokens. -/
theorem ofBits_inv_tokens : Ideal.ofBits .f32 0x38000000#32 = ((1 / 32768 : ℝ) : EReal) := by
  simp [Ideal.ofBits, Ideal.ieee, -EReal.coe_mul]; norm_num

/-- What the blocks of a grid point hold. -/
structure Holds (E : Vec Ideal S1x1024 .f32) (x2 : Vec Ideal S64x1024 .f32) (x0 : Vec Ideal S1x64x512 .f32)
    (u : Fin 512 → Fin 64 → EReal) (e : Fin 1024 → Fin 64 → EReal) : Prop where
  /-- The squared norms of the codes. -/
  norms : ∀ j, (E (ix2 0 j) : EReal) = ∑ c, e j c * e j c
  /-- The doubled codes. -/
  twice : ∀ c j, (x2 (ix2 c j) : EReal) = ((2 : ℝ) : EReal) * e j c
  /-- The tokens. -/
  tokens : ∀ r c, (x0 (ix3 0 c r) : EReal) = u r c

/-- Doubling goes through a sum. -/
theorem two_mul_sum {ι : Type} (s : Finset ι) (f : ι → EReal) :
    ((2 : ℝ) : EReal) * ∑ i ∈ s, f i = ∑ i ∈ s, ((2 : ℝ) : EReal) * f i := by
  classical
  induction s using Finset.induction_on with
  | empty => simp
  | insert a s ha ih =>
    rw [Finset.sum_insert ha, Finset.sum_insert ha, ← ih]
    exact EReal.left_distrib_of_nonneg_of_ne_top (by exact_mod_cast (by norm_num : (0 : ℝ) ≤ 2)) (EReal.coe_ne_top _) _ _

/-- The products of a block's tokens with the doubled codes. -/
theorem prod_at (x2 : Vec Ideal S64x1024 .f32) (x0 : Vec Ideal S1x64x512 .f32) (r : Fin 512) (j : Fin 1024) :
    (k0_pay9 x2 x0 (ix2 r j) : EReal) = ∑ c : Fin 64, (x0 (ix3 0 c r) : EReal) * x2 (ix2 c j) := by
  have h : (k0_pay9 x2 x0 (ix2 r j) : EReal) = ∑ c : Fin 64, (k0_pay8 x0 (ix2 r c) : EReal) * x2 (ix2 c j) := by
    pointwise [k0_pay9]
  rw [h]
  exact Finset.sum_congr rfl fun c _ => by rw [xb_at]

/-- The squared norms of a block's tokens. -/
theorem norm_at (x0 : Vec Ideal S1x64x512 .f32) (r : Fin 512) (z : Fin 1) :
    (k0_pay10 x0 (ix2 r z) : EReal) = ∑ c : Fin 64, (x0 (ix3 0 c r) : EReal) * x0 (ix3 0 c r) := by
  have h : (k0_pay10 x0 (ix2 r z) : EReal) = ∑ c : Fin 64, (k0_pay8 x0 (ix2 r c) : EReal) * k0_pay8 x0 (ix2 r c) := by
    pointwise [k0_pay10]
  rw [h]
  exact Finset.sum_congr rfl fun c _ => by rw [xb_at]

/-- The distances of a subtile. -/
theorem dist_at {E : Vec Ideal S1x1024 .f32} {x2 : Vec Ideal S64x1024 .f32} {x0 : Vec Ideal S1x64x512 .f32}
    {u : Fin 512 → Fin 64 → EReal} {e : Fin 1024 → Fin 64 → EReal} (H : Holds E x2 x0 u e)
    (s k : Fin 8) (r : Fin 64) (l : Fin 128) :
    (dist (F := Ideal) E x2 x0 s k (ix2 r l) : EReal) = dst (u ⟨64 * s.val + r.val, by omega⟩) e ⟨128 * k.val + l.val, by omega⟩ := by
  pointwise [dist, dk]
  rw [prod_at, norm_at, H.norms]
  unfold dst
  rw [two_mul_sum]
  simp only [H.tokens, H.twice]
  congr 1
  exact Finset.sum_congr rfl fun c _ => mul_left_comm _ _ _

/-- A subtile's row of distances is its token's. -/
theorem row_eq {E : Vec Ideal S1x1024 .f32} {x2 : Vec Ideal S64x1024 .f32} {x0 : Vec Ideal S1x64x512 .f32}
    {u : Fin 512 → Fin 64 → EReal} {e : Fin 1024 → Fin 64 → EReal} (H : Holds E x2 x0 u e)
    (s : Fin 8) (r : Fin 64) :
    row (dist (F := Ideal) E x2 x0 s) r = dst (u ⟨64 * s.val + r.val, by omega⟩) e := by
  funext j
  unfold row
  rw [dist_at H]
  congr 1
  exact Fin.ext (by simp only []; omega)

/-- An entry of a chunk of one-hot rows. -/
theorem hotk_at (i : IVec S64x1 32) (k : Nat) (hk : k < 8) (r : Fin 64) (l : Fin 128) (K : Fin 1024)
    (hi : i (ix2 r 0) = BitVec.ofNat 32 K.val) :
    (hotk (F := Ideal) i k (ix2 r l) : EReal) = if 128 * k + l.val = K.val then 1 else 0 := by
  pointwise [hotk, lane]
  rw [hi]
  have : IntOp.addi (BitVec.ofNat 32 l.val) (BitVec.ofNat 32 (128 * k)) = BitVec.ofNat 32 (128 * k + l.val) := by
    unfold IntOp.addi
    apply BitVec.eq_of_toNat_eq
    simp only [BitVec.toNat_add, BitVec.toNat_ofNat]
    omega
  rw [this]
  unfold IntOp.cmpi
  by_cases h : 128 * k + l.val = K.val
  · rw [h]
    simp [FloatOps.sitofp]
  · have h' : ¬ BitVec.ofNat 32 (128 * k + l.val) = BitVec.ofNat 32 K.val := by
      rw [Ref.ofNat_eq_iff (by omega) (by omega)]
      exact h
    simp [h, beq_eq_false_iff_ne.mpr h', FloatOps.sitofp]

/-- An entry of one-hot rows. -/
theorem hot_at (i : IVec S64x1 32) (r : Fin 64) (j K : Fin 1024) (hi : i (ix2 r 0) = BitVec.ofNat 32 K.val) :
    (hot (F := Ideal) i (ix2 r j) : EReal) = if j = K then 1 else 0 := by
  have e : ∀ k, k < 8 → ∀ l : Fin 128, 128 * k + l.val = j.val →
      (hotk (F := Ideal) i k (ix2 r l) : EReal) = if j = K then 1 else 0 := by
    intro k hk l hl
    rw [hotk_at i k hk r l K hi, hl]
    simp only [Fin.ext_iff]
  generalize (if j = K then (1 : EReal) else 0) = w at e ⊢
  pointwise [hot]
  split
  · rename_i h0
    exact e 0 (by omega) ⟨_, h0⟩ (by simp only []; omega)
  split
  · rename_i h1
    exact e 1 (by omega) ⟨_, h1⟩ (by simp only []; omega)
  split
  · rename_i h2
    exact e 2 (by omega) ⟨_, h2⟩ (by simp only []; omega)
  split
  · rename_i h3
    exact e 3 (by omega) ⟨_, h3⟩ (by simp only []; omega)
  split
  · rename_i h4
    exact e 4 (by omega) ⟨_, h4⟩ (by simp only []; omega)
  split
  · rename_i h5
    exact e 5 (by omega) ⟨_, h5⟩ (by simp only []; omega)
  split
  · rename_i h6
    exact e 6 (by omega) ⟨_, h6⟩ (by simp only []; omega)
  exact e 7 (by omega) ⟨_, by omega⟩ (by simp only []; omega)

/-- The one-hot rows of a subtile. -/
theorem hotT_at {E : Vec Ideal S1x1024 .f32} {x2 : Vec Ideal S64x1024 .f32} {x0 : Vec Ideal S1x64x512 .f32}
    {u : Fin 512 → Fin 64 → EReal} {e : Fin 1024 → Fin 64 → EReal} (H : Holds E x2 x0 u e)
    (s : Fin 8) (r : Fin 64) (j : Fin 1024) :
    (hotT (F := Ideal) E x2 x0 s (ix2 r j) : EReal) = if j = code (u ⟨64 * s.val + r.val, by omega⟩) e then 1 else 0 := by
  unfold hotT
  exact hot_at _ r j _ (by rw [near_at, row_eq H]; rfl)

/-- The least distances of a subtile. -/
theorem dminT_at {E : Vec Ideal S1x1024 .f32} {x2 : Vec Ideal S64x1024 .f32} {x0 : Vec Ideal S1x64x512 .f32}
    {u : Fin 512 → Fin 64 → EReal} {e : Fin 1024 → Fin 64 → EReal} (H : Holds E x2 x0 u e)
    (s : Fin 8) (r : Fin 64) (z : Fin 1) :
    (dmin (dist (F := Ideal) E x2 x0 s) (ix2 r z) : EReal)
      = dst (u ⟨64 * s.val + r.val, by omega⟩) e (code (u ⟨64 * s.val + r.val, by omega⟩) e) := by
  rw [dmin_at, row_eq H]; rfl

/-- The quantised tokens of a subtile. -/
theorem qT_at {E : Vec Ideal S1x1024 .f32} {x2 : Vec Ideal S64x1024 .f32} {x0 : Vec Ideal S1x64x512 .f32}
    {u : Fin 512 → Fin 64 → EReal} {e : Fin 1024 → Fin 64 → EReal} (H : Holds E x2 x0 u e)
    (x1 : Vec Ideal S1024x64 .bf16) (h1 : ∀ j c, (x1 (ix2 j c) : EReal) = e j c) (s : Fin 8) (c r : Fin 64) :
    (qT (F := Ideal) E x2 x1 x0 s (ix2 c r) : EReal)
      = u ⟨64 * s.val + r.val, by omega⟩ c
        + (e (code (u ⟨64 * s.val + r.val, by omega⟩) e) c - u ⟨64 * s.val + r.val, by omega⟩ c) := by
  have hh := fun j => hotT_at H s r j
  unfold qT
  generalize hotT (F := Ideal) E x2 x0 s = h at hh
  pointwise [qtile]
  rw [xb_at, H.tokens, Finset.sum_eq_single (code (u ⟨64 * s.val + r.val, by omega⟩) e)]
  · rw [hh, if_pos rfl, one_mul, h1]
  · intro j _ hj
    rw [hh, if_neg hj, zero_mul]
  · intro h; exact absurd (Finset.mem_univ _) h

/-- A sum over subtiles and their tokens is a sum over the block's tokens. -/
theorem sum_tiles (f : Fin 512 → EReal) :
    ∑ s : Fin 8, ∑ r : Fin 64, f ⟨64 * s.val + r.val, by omega⟩ = ∑ r, f r := by
  rw [← Fintype.sum_prod_type' (f := fun (s : Fin 8) (r : Fin 64) => f ⟨64 * s.val + r.val, by omega⟩)]
  refine Fintype.sum_equiv (finProdFinEquiv (m := 8) (n := 64)) _ _ fun p => ?_
  congr 1
  exact Fin.ext (by simp [finProdFinEquiv]; omega)

/-- The code counts over the first subtiles. -/
theorem histAcc_at {E : Vec Ideal S1x1024 .f32} {x2 : Vec Ideal S64x1024 .f32} {x0 : Vec Ideal S1x64x512 .f32}
    {u : Fin 512 → Fin 64 → EReal} {e : Fin 1024 → Fin 64 → EReal} (H : Holds E x2 x0 u e) (z : Fin 1) (j : Fin 1024) :
    ∀ (n : Nat) (h : n ≤ 8), (histAcc (F := Ideal) E x2 x0 n h (ix2 z j) : EReal)
      = ∑ s : Fin n, ∑ r : Fin 64, if j = code (u ⟨64 * s.val + r.val, by omega⟩) e then (1 : EReal) else 0
  | 0, h => by
    rw [histAcc]
    pointwise []
    simp
  | n + 1, h => by
    have e1 : (histAcc (F := Ideal) E x2 x0 (n + 1) h (ix2 z j) : EReal)
        = histAcc (F := Ideal) E x2 x0 n (Nat.le_of_succ_le h) (ix2 z j) + ∑ r : Fin 64, (hotT (F := Ideal) E x2 x0 ⟨n, h⟩ (ix2 r j) : EReal) := by
      rw [histAcc]
      pointwise [colSum]
    rw [e1, histAcc_at H z j n, Fin.sum_univ_castSucc (n := n)]
    simp only [hotT_at H]
    rfl

/-- The sums of least distances over the first subtiles. -/
theorem sseAcc_at {E : Vec Ideal S1x1024 .f32} {x2 : Vec Ideal S64x1024 .f32} {x0 : Vec Ideal S1x64x512 .f32}
    {u : Fin 512 → Fin 64 → EReal} {e : Fin 1024 → Fin 64 → EReal} (H : Holds E x2 x0 u e) (r : Fin 64) (z : Fin 1) :
    ∀ (n : Nat) (h : n ≤ 8), (sseAcc (F := Ideal) E x2 x0 n h (ix2 r z) : EReal)
      = ∑ s : Fin n, dst (u ⟨64 * s.val + r.val, by omega⟩) e (code (u ⟨64 * s.val + r.val, by omega⟩) e)
  | 0, h => by
    rw [sseAcc]
    pointwise []
    simp
  | n + 1, h => by
    have e1 : (sseAcc (F := Ideal) E x2 x0 (n + 1) h (ix2 r z) : EReal)
        = sseAcc (F := Ideal) E x2 x0 n (Nat.le_of_succ_le h) (ix2 r z) + dmin (dist (F := Ideal) E x2 x0 ⟨n, h⟩) (ix2 r z) := by
      rw [sseAcc]
      pointwise []
    rw [e1, sseAcc_at H r z n, Fin.sum_univ_castSucc (n := n), dminT_at H]
    rfl

/-- The counts after a point. -/
theorem histNext_at {E : Vec Ideal S1x1024 .f32} {x2 : Vec Ideal S64x1024 .f32} {x0 : Vec Ideal S1x64x512 .f32}
    {u : Fin 512 → Fin 64 → EReal} {e : Fin 1024 → Fin 64 → EReal} (H : Holds E x2 x0 u e)
    (A : Vec Ideal S1x1024 .f32) (z : Fin 1) (j : Fin 1024) :
    (histNext (F := Ideal) E x2 x0 A (ix2 z j) : EReal)
      = A (ix2 z j) + ∑ r, if j = code (u r) e then (1 : EReal) else 0 := by
  rw [← sum_tiles, ← histAcc_at H z j 8 (Nat.le_refl 8)]
  unfold histNext
  pointwise []

/-- The sums of least distances after a point. -/
theorem sseNext_at {E : Vec Ideal S1x1024 .f32} {x2 : Vec Ideal S64x1024 .f32} {x0 : Vec Ideal S1x64x512 .f32}
    {u : Fin 512 → Fin 64 → EReal} {e : Fin 1024 → Fin 64 → EReal} (H : Holds E x2 x0 u e)
    (A : Vec Ideal S64x1 .f32) (r : Fin 64) (z : Fin 1) :
    (sseNext (F := Ideal) E x2 x0 A (ix2 r z) : EReal)
      = A (ix2 r z) + ∑ s : Fin 8, dst (u ⟨64 * s.val + r.val, by omega⟩) e (code (u ⟨64 * s.val + r.val, by omega⟩) e) := by
  rw [← sseAcc_at H r z 8 (Nat.le_refl 8)]
  unfold sseNext
  pointwise []

/-- The block of quantised inputs. -/
theorem qBlock_at {E : Vec Ideal S1x1024 .f32} {x2 : Vec Ideal S64x1024 .f32} {x0 : Vec Ideal S1x64x512 .f32}
    {u : Fin 512 → Fin 64 → EReal} {e : Fin 1024 → Fin 64 → EReal} (H : Holds E x2 x0 u e)
    (x1 : Vec Ideal S1024x64 .bf16) (h1 : ∀ j c, (x1 (ix2 j c) : EReal) = e j c) (z : Fin 1) (c : Fin 64) (r : Fin 512) :
    (qBlock (F := Ideal) E x2 x1 x0 (ix3 z c r) : EReal) = u r c + (e (code (u r) e) c - u r c) := by
  have hq : ∀ (s : Fin 8) (l : Fin 64), 64 * s.val + l.val = r.val →
      (qT (F := Ideal) E x2 x1 x0 s (ix2 c l) : EReal) = u r c + (e (code (u r) e) c - u r c) := by
    intro s l hl
    have : (⟨64 * s.val + l.val, by omega⟩ : Fin 512) = r := Fin.ext hl
    rw [qT_at H x1 h1, this]
  generalize u r c + (e (code (u r) e) c - u r c) = w at hq ⊢
  pointwise [qBlock]
  split
  · rename_i h0
    exact hq 0 ⟨_, h0⟩ (by simp only []; omega)
  split
  · rename_i h1
    exact hq 1 ⟨_, h1⟩ (by simp only []; omega)
  split
  · rename_i h2
    exact hq 2 ⟨_, h2⟩ (by simp only []; omega)
  split
  · rename_i h3
    exact hq 3 ⟨_, h3⟩ (by simp only []; omega)
  split
  · rename_i h4
    exact hq 4 ⟨_, h4⟩ (by simp only []; omega)
  split
  · rename_i h5
    exact hq 5 ⟨_, h5⟩ (by simp only []; omega)
  split
  · rename_i h6
    exact hq 6 ⟨_, h6⟩ (by simp only []; omega)
  exact hq 7 ⟨_, by omega⟩ (by simp only []; omega)

/-- The squared norms the first point stores. -/
theorem e2_at (x2 : Vec Ideal S64x1024 .f32) (e : Fin 1024 → Fin 64 → EReal)
    (h2 : ∀ c j, (x2 (ix2 c j) : EReal) = ((2 : ℝ) : EReal) * e j c) (z : Fin 1) (j : Fin 1024) :
    (k0_pay6 x2 (ix2 z j) : EReal) = ∑ c, e j c * e j c := by
  pointwise [k0_pay6]
  refine Finset.sum_congr rfl fun c _ => ?_
  rw [h2, ofBits_quarter]
  have h : ((1 / 4 : ℝ) : EReal) * (((2 : ℝ) : EReal) * e j c * (((2 : ℝ) : EReal) * e j c))
      = (((1 / 4 : ℝ) : EReal) * ((2 : ℝ) : EReal) * ((2 : ℝ) : EReal)) * (e j c * e j c) := by
    ac_rfl
  rw [h, ← EReal.coe_mul, ← EReal.coe_mul]
  norm_num

/-- The loss from the sums of least distances. -/
theorem loss_at (S : Vec Ideal S64x1 .f32) :
    (k0_pay2 S : EReal) = Ideal.div (Ideal.ofBits .f32 0x3FA00000#32 * ∑ p : Fin 64, (S (ix2 p 0) : EReal))
      (Ideal.ofBits .f32 0x4A000000#32) := by
  pointwise [k0_pay2]
  simp only [Fin.sum_univ_one]

/-- The perplexity from the counts. -/
theorem perp_at (S : Vec Ideal S1x1024 .f32) :
    (k0_pay3 S : EReal) = Ideal.exp (0 - ∑ j : Fin 1024,
      (S (ix2 0 j) : EReal) * Ideal.ofBits .f32 0x38000000#32 *
        Ideal.log ((S (ix2 0 j) : EReal) * Ideal.ofBits .f32 0x38000000#32 + Ideal.ofBits .f32 0x2EDBE6FF#32)) := by
  pointwise [k0_pay3]
  simp only [Fin.sum_univ_one]
  rfl

/-- The one-hot rows of a block of tokens. -/
def encRows (u : Fin 512 → Fin 64 → EReal) (e : Fin 1024 → Fin 64 → EReal) : Vec Ideal S512x1024 .f32 := fun y =>
  if (⟨(y 1).val, (y 1).isLt⟩ : Fin 1024) = code (u ⟨(y 0).val, (y 0).isLt⟩) e then (1 : EReal) else 0

/-- One store of a subtile's one-hot rows puts each entry where the block's rows have it. -/
theorem encPiece_at {E : Vec Ideal S1x1024 .f32} {x2 : Vec Ideal S64x1024 .f32} {x0 : Vec Ideal S1x64x512 .f32}
    {u : Fin 512 → Fin 64 → EReal} {e : Fin 1024 → Fin 64 → EReal} (H : Holds E x2 x0 u e) (s : Fin 8)
    (o : Nat) (ho : o = 64 * s.val) (inb : ∀ a, (![o, 0] : Fin 2 → Nat) a + (![64, 1024] : Fin 2 → Nat) a ≤ S512x1024.size a)
    (x : S64x1024.Idx) :
    (hotT (F := Ideal) E x2 x0 s x : EReal) = encRows u e ((Rect.unit (s := S512x1024) ![o, 0] ![64, 1024] inb).emb x) := by
  subst ho
  obtain ⟨a, b, rfl⟩ : ∃ a b, x = ix2 a b := ⟨_, _, eq_ix2 _⟩
  have hi : (Rect.unit (s := S512x1024) ![64 * s.val, 0] ![64, 1024] inb).emb (ix2 a b)
      = ix2 ⟨64 * s.val + a.val, by omega⟩ b := by
    funext i
    apply Fin.ext
    fin_cases i
    · show 64 * s.val + 1 * a.val = 64 * s.val + a.val
      omega
    · show 0 + 1 * b.val = b.val
      omega
  rw [hotT_at H, hi]
  rfl

/-- The eight stores of one-hot rows make the block's rows. -/
theorem encBlock_at {E : Vec Ideal S1x1024 .f32} {x2 : Vec Ideal S64x1024 .f32} {x0 : Vec Ideal S1x64x512 .f32}
    {u : Fin 512 → Fin 64 → EReal} {e : Fin 1024 → Fin 64 → EReal} (H : Holds E x2 x0 u e)
    (hc : ∀ y : S512x1024.Idx, ∃ p ∈ encPieces (F := Ideal) E x2 x0, y ∈ p.1.set) :
    View.canon (encPieces (F := Ideal) E x2 x0) = encRows u e := by
  funext y
  refine View.canon_apply_of_pieces (encRows u e) (encPieces (F := Ideal) E x2 x0) ?_ y (hc y)
  intro p hp
  unfold encPieces at hp
  simp only [List.mem_cons, List.not_mem_nil, or_false] at hp
  rcases hp with rfl | rfl | rfl | rfl | rfl | rfl | rfl | rfl
  · exact encPiece_at H 7 448 rfl inb_S512x1024_S64x1024_448_0
  · exact encPiece_at H 6 384 rfl inb_S512x1024_S64x1024_384_0
  · exact encPiece_at H 5 320 rfl inb_S512x1024_S64x1024_320_0
  · exact encPiece_at H 4 256 rfl inb_S512x1024_S64x1024_256_0
  · exact encPiece_at H 3 192 rfl inb_S512x1024_S64x1024_192_0
  · exact encPiece_at H 2 128 rfl inb_S512x1024_S64x1024_128_0
  · exact encPiece_at H 1 64 rfl inb_S512x1024_S64x1024_64_0
  · exact encPiece_at H 0 0 rfl inb_S512x1024_S64x1024_0_0

/-- Those stores cover the block. -/
theorem encPieces_cover (E : Vec Ideal S1x1024 .f32) (x2 : Vec Ideal S64x1024 .f32) (x0 : Vec Ideal S1x64x512 .f32)
    (y : S512x1024.Idx) : ∃ p ∈ encPieces (F := Ideal) E x2 x0, y ∈ p.1.set :=
  View.cover_of_tiledL (encPieces (F := Ideal) E x2 x0) S64x1024.size (by sl_kernel_rfl) y

end Cert.Vq.Ker
-- ==== Proof.KerRun.lean ====
module

public import proofs.«01_k».proof.Proof.KerValue
public import proofs.«01_k».proof.Proof.Gen.KernelIdeal.Value
public import Idealize.ShloMosaic.Lib.Pipeline.Value
public import Idealize.ShloMosaic.Lib.Pipeline.ValueKit
public import Idealize.ShloMosaic.Lib.Claim

/-!
# What each grid point leaves

The blocks a point reads, as entries of the arguments; what the point leaves in its output blocks and in
the three scratches; and, by induction over the points, the scratches' contents as sums over all tokens
seen so far.
-/

@[expose] public section
noncomputable section
namespace Cert.Vq.Ker
open Cert.KernelIdeal Cert.KernelIdeal.Gen
open Idealize.ShloMosaic Idealize.ShloMosaic.TcCoe Idealize.SL.Sem
open Pointwise
set_option maxRecDepth 16384

section Points
variable {F : FTy → Type} [FloatOps F]
variable (m : (ℓ : Loc nD τ sig) → Buf (Elt F) ℓ)

/-- What a point leaves, from its blocks and the scratches it found: its two output blocks and the scratches. -/
structure Leaves (o : Vec F S512x1024 .f32 × Vec F S1x64x512 .f32 × Vec F S1x1 .f32 × Vec F S1x1 .f32 ×
      Vec F S1x1024 .f32 × Vec F S1x1024 .f32 × Vec F S64x1 .f32)
    (x0 : FVec F S1x64x512 .f32) (x1 : FVec F S1024x64 .bf16) (x2 : FVec F S64x1024 .f32)
    (H E : FVec F S1x1024 .f32) (S : FVec F S64x1 .f32) : Prop where
  /-- The one-hot rows. -/
  enc : o.1 = View.canon (encPieces E x2 x0)
  /-- The quantised tokens. -/
  qst : o.2.1 = qBlock E x2 x1 x0
  /-- The counts. -/
  hist : o.2.2.2.2.1 = histNext E x2 x0 H
  /-- The squared norms. -/
  e2 : o.2.2.2.2.2.1 = E
  /-- The sums of least distances. -/
  sse : o.2.2.2.2.2.2 = sseNext E x2 x0 S

/-- The first point starts from the norms it computes, no counts and no sums. -/
theorem leaves_A (c : Dev nD) (t : Fin cfg0.N) (h0 : t.val % 64 = 0) (h1 : ¬t.val % 64 = 63) :
    Leaves (outsAt0 m c t.val t.isLt) (iblk m c 0 t) (iblk m c 1 t) (iblk m c 2 t)
      k0_pay4 (k0_pay6 (iblk m c 2 t)) k0_pay5 := by
  rw [outsAt0_A m c t h0 h1]
  refine ⟨?_, ?_, ?_, ?_, ?_⟩ <;> dsimp only
  · exact enc_A ..
  · exact qst_A ..
  · exact hist_A ..
  · exact e2_A ..
  · exact sse_A ..

/-- A middle point carries on from the point before. -/
theorem leaves_B (c : Dev nD) (t : Fin cfg0.N) (h0 : ¬t.val % 64 = 0) (h1 : ¬t.val % 64 = 63)
    (p : _) (hp : p = outsAt0 m c (t.val - 1) (Nat.lt_of_le_of_lt (Nat.sub_le _ _) t.isLt)) :
    Leaves (outsAt0 m c t.val t.isLt) (iblk m c 0 t) (iblk m c 1 t) (iblk m c 2 t)
      p.2.2.2.2.1 p.2.2.2.2.2.1 p.2.2.2.2.2.2 := by
  subst hp
  rw [outsAt0_B m c t h0 h1]
  refine ⟨?_, ?_, ?_, ?_, ?_⟩ <;> dsimp only
  · exact enc_B ..
  · exact qst_B ..
  · exact hist_B ..
  · rfl
  · exact sse_B ..

/-- So does the last point. -/
theorem leaves_C (c : Dev nD) (t : Fin cfg0.N) (h0 : ¬t.val % 64 = 0) (h1 : t.val % 64 = 63)
    (p : _) (hp : p = outsAt0 m c (t.val - 1) (Nat.lt_of_le_of_lt (Nat.sub_le _ _) t.isLt)) :
    Leaves (outsAt0 m c t.val t.isLt) (iblk m c 0 t) (iblk m c 1 t) (iblk m c 2 t)
      p.2.2.2.2.1 p.2.2.2.2.2.1 p.2.2.2.2.2.2 := by
  subst hp
  rw [outsAt0_C m c t h0 h1]
  refine ⟨?_, ?_, ?_, ?_, ?_⟩ <;> dsimp only
  · exact enc_C ..
  · exact qst_C ..
  · exact hist_C ..
  · rfl
  · exact sse_C ..

/-- The last point also leaves the loss and the perplexity, from the scratches it leaves. -/
theorem last_C (c : Dev nD) (t : Fin cfg0.N) (h0 : ¬t.val % 64 = 0) (h1 : t.val % 64 = 63) :
    (outsAt0 m c t.val t.isLt).2.2.1 = (fun _ => k0_pay2 (outsAt0 m c t.val t.isLt).2.2.2.2.2.2) ∧
    (outsAt0 m c t.val t.isLt).2.2.2.1 = (fun _ => k0_pay3 (outsAt0 m c t.val t.isLt).2.2.2.2.1) := by
  have L := leaves_C m c t h0 h1 _ rfl
  rw [L.hist, L.sse, outsAt0_C m c t h0 h1]
  dsimp only
  refine ⟨?_, ?_⟩
  · exact loss_C ..
  · exact perp_C ..

end Points

variable (m : (ℓ : Loc nD τ sig) → Buf (Elt Ideal) ℓ)

/-- The inputs on device `c`. -/
abbrev xs (c : Dev nD) : FVec Ideal S16x64x2048 .f32 := m ((c : Thread nD τ).loc main_arg0)
/-- The code table on device `c`. -/
abbrev es (c : Dev nD) : FVec Ideal S1024x64 .f32 := m ((c : Thread nD τ).loc main_arg1)

/-- Where each window's block stands at point `t`. -/
theorem idx : ∀ t : Fin cfg0.N, win0_0.index t = ![t.val / 4, 0, t.val % 4] ∧ win0_1.index t = ![0, 0] ∧
    win0_2.index t = ![0, 0] ∧ win0_3.index t = ![t.val, 0] ∧ win0_4.index t = ![t.val / 4, 0, t.val % 4] ∧
    win0_5.index t = ![0, 0] ∧ win0_6.index t = ![0, 0] :=
  (by decide +kernel : ∀ t : Fin grid0.N, win0_0.index t = ![t.val / 4, 0, t.val % 4] ∧ win0_1.index t = ![0, 0] ∧
    win0_2.index t = ![0, 0] ∧ win0_3.index t = ![t.val, 0] ∧ win0_4.index t = ![t.val / 4, 0, t.val % 4] ∧
    win0_5.index t = ![0, 0] ∧ win0_6.index t = ![0, 0])

/-- Points are below 64. -/
theorem lt64 (t : Fin cfg0.N) : t.val < 64 := by have := t.isLt; have : cfg0.N = 64 := N_0; omega

/-- Row `r` of point `n`, as a token. -/
def tokIx (n : Nat) (r : Fin 512) : Fin 32768 := ⟨(512 * n + r.val) % 32768, Nat.mod_lt _ (by omega)⟩

/-- A point's block of the inputs holds its 512 tokens. -/
theorem blk_tokens (c : Dev nD) (t : Fin cfg0.N) (r : Fin 512) (ch : Fin 64) :
    ((iblk m c 0 t : Vec Ideal S1x64x512 .f32) (ix3 0 ch r) : EReal) = tok (xs m c) (tokIx t.val r) ch := by
  have ht := lt64 t
  unfold tok tokIx
  blk_ext [iblk, V, idx t]

/-- Every point's second block is the code table. -/
theorem blk_codes (c : Dev nD) (t : Fin cfg0.N) (j : Fin 1024) (ch : Fin 64) :
    ((iblk m c 1 t : Vec Ideal S1024x64 .bf16) (ix2 j ch) : EReal) = em (es m c) j ch := by
  unfold em
  blk_ext [iblk, idx t]

/-- Every point's third block is the code table, transposed and doubled. -/
theorem blk_twice (c : Dev nD) (t : Fin cfg0.N) (ch : Fin 64) (j : Fin 1024) :
    ((iblk m c 2 t : Vec Ideal S64x1024 .f32) (ix2 ch j) : EReal) = ((2 : ℝ) : EReal) * em (es m c) j ch := by
  have e : ((iblk m c 2 t : Vec Ideal S64x1024 .f32) (ix2 ch j) : EReal) = V m c main_v2 (ix2 ch j) := by
    blk_ext [iblk, idx t]
  rw [e]
  entry_read
  pointwise
  rw [ofBits_two]
  rfl

/-- A point's blocks hold its tokens and the codes. -/
theorem holds (c : Dev nD) (t : Fin cfg0.N) (E : Vec Ideal S1x1024 .f32)
    (hE : ∀ z j, (E (ix2 z j) : EReal) = ∑ ch, em (es m c) j ch * em (es m c) j ch) :
    Holds E (iblk m c 2 t) (iblk m c 0 t) (fun r => tok (xs m c) (tokIx t.val r)) (em (es m c)) :=
  ⟨fun j => hE 0 j, blk_twice m c t, blk_tokens m c t⟩

/-- The counts start at zero. -/
theorem hist_zero (i : S1x1024.Idx) : (k0_pay4 (F := Ideal) i : EReal) = 0 := by
  obtain ⟨z, j, rfl⟩ : ∃ z j, i = ix2 z j := ⟨_, _, eq_ix2 _⟩
  pointwise [k0_pay4]

/-- The sums start at zero. -/
theorem sse_zero (i : S64x1.Idx) : (k0_pay5 (F := Ideal) i : EReal) = 0 := by
  obtain ⟨z, j, rfl⟩ : ∃ z j, i = ix2 z j := ⟨_, _, eq_ix2 _⟩
  pointwise [k0_pay5]

/-- What point `k` adds to the count of code `j`. -/
def cntAt (x : FVec Ideal S16x64x2048 .f32) (e : FVec Ideal S1024x64 .f32) (j : Fin 1024) (k : Nat) : EReal :=
  ∑ r, if j = codeOf x e (tokIx k r) then (1 : EReal) else 0

/-- The least distance of token `n`. -/
def least (x : FVec Ideal S16x64x2048 .f32) (e : FVec Ideal S1024x64 .f32) (n : Fin 32768) : EReal :=
  dst (tok x n) (em e) (codeOf x e n)

/-- What point `k` adds to the `p`-th sum of least distances. -/
def sseAt (x : FVec Ideal S16x64x2048 .f32) (e : FVec Ideal S1024x64 .f32) (p : Fin 64) (k : Nat) : EReal :=
  ∑ s : Fin 8, least x e (tokIx k ⟨64 * s.val + p.val, by omega⟩)

/-- The scratches after point `n`: norms, counts and sums over the points up to `n`. -/
structure State (c : Dev nD) (n : Nat) (H E : Vec Ideal S1x1024 .f32) (S : Vec Ideal S64x1 .f32) : Prop where
  /-- The squared norms of the codes. -/
  norms : ∀ z j, (E (ix2 z j) : EReal) = ∑ ch, em (es m c) j ch * em (es m c) j ch
  /-- The counts so far. -/
  hist : ∀ z j, (H (ix2 z j) : EReal) = ∑ k ∈ Finset.range n, cntAt (xs m c) (es m c) j k
  /-- The sums so far. -/
  sse : ∀ p z, (S (ix2 p z) : EReal) = ∑ k ∈ Finset.range n, sseAt (xs m c) (es m c) p k

/-- One point takes the scratches on by its own tokens. -/
theorem State.step {m : (ℓ : Loc nD τ sig) → Buf (Elt Ideal) ℓ} {c : Dev nD} {t : Fin cfg0.N} {o x1}
    {H E : Vec Ideal S1x1024 .f32} {S : Vec Ideal S64x1 .f32}
    (h : State m c t.val H E S) (L : Leaves (F := Ideal) o (iblk m c 0 t) x1 (iblk m c 2 t) H E S) :
    State m c (t.val + 1) o.2.2.2.2.1 o.2.2.2.2.2.1 o.2.2.2.2.2.2 := by
  have K := holds m c t E h.norms
  refine ⟨?_, ?_, ?_⟩
  · rw [L.e2]; exact h.norms
  · intro z j
    rw [L.hist, histNext_at K, h.hist, Finset.sum_range_succ]
    rfl
  · intro p z
    rw [L.sse, sseNext_at K, h.sse, Finset.sum_range_succ]
    rfl

/-- Every point finds the scratches at their sums so far, and leaves what its words say. -/
theorem point (c : Dev nD) : ∀ (n : Nat) (hn : n < cfg0.N), ∃ H E S, State m c n H E S ∧
    Leaves (outsAt0 m c n hn) (iblk m c 0 ⟨n, hn⟩) (iblk m c 1 ⟨n, hn⟩) (iblk m c 2 ⟨n, hn⟩) H E S
  | 0, hn => ⟨k0_pay4 (F := Ideal), k0_pay6 (iblk m c 2 ⟨0, hn⟩), k0_pay5 (F := Ideal),
      ⟨e2_at _ _ (blk_twice m c ⟨0, hn⟩), fun z j => hist_zero _, fun p z => sse_zero _⟩,
      leaves_A m c ⟨0, hn⟩ (by show 0 % 64 = 0; decide) (by show ¬0 % 64 = 63; decide)⟩
  | n + 1, hn => by
    have hN : n + 1 < 64 := lt64 ⟨n + 1, hn⟩
    obtain ⟨H, E, S, h, L⟩ := point c n (Nat.lt_of_succ_lt hn)
    refine ⟨_, _, _, h.step (t := ⟨n, Nat.lt_of_succ_lt hn⟩) L, ?_⟩
    by_cases h1 : (n + 1) % 64 = 63
    · exact leaves_C m c ⟨n + 1, hn⟩ (by show ¬(n + 1) % 64 = 0; omega) h1 _ rfl
    · exact leaves_B m c ⟨n + 1, hn⟩ (by show ¬(n + 1) % 64 = 0; omega) h1 _ rfl

/-- A sum over points and rows is a sum over tokens. -/
theorem sum_points (f : Fin 32768 → EReal) : ∑ k ∈ Finset.range 64, ∑ r, f (tokIx k r) = ∑ n, f n := by
  rw [Finset.sum_range (fun k => ∑ r, f (tokIx k r)),
    ← Fintype.sum_prod_type' (f := fun (k : Fin 64) (r : Fin 512) => f (tokIx k.val r))]
  refine Fintype.sum_equiv (finProdFinEquiv (m := 64) (n := 512)) _ _ fun p => ?_
  congr 1
  exact Fin.ext (by simp [finProdFinEquiv, tokIx]; omega)

/-- The counts in the end. -/
theorem sum_cntAt (x : FVec Ideal S16x64x2048 .f32) (e : FVec Ideal S1024x64 .f32) (j : Fin 1024) :
    ∑ k ∈ Finset.range 64, cntAt x e j k = cnt x e j :=
  sum_points fun n => if j = codeOf x e n then (1 : EReal) else 0

/-- The sums in the end, added up. -/
theorem sum_sseAt (x : FVec Ideal S16x64x2048 .f32) (e : FVec Ideal S1024x64 .f32) :
    ∑ p : Fin 64, ∑ k ∈ Finset.range 64, sseAt x e p k = ∑ n, least x e n := by
  rw [Finset.sum_comm, ← sum_points]
  refine Finset.sum_congr rfl fun k _ => ?_
  unfold sseAt
  rw [Finset.sum_comm]
  exact sum_tiles fun r => least x e (tokIx k r)

end Cert.Vq.Ker
-- ==== Proof.KerFinal.lean ====
module

public import proofs.«01_k».proof.Proof.KerRun

/-!
# The kernel's result arrays

Each result array after the run, entry by entry: every point writes its block of the one-hot rows and of
the quantised tokens, and the last point writes the loss and the perplexity.
-/

@[expose] public section
noncomputable section
namespace Cert.Vq.Ker
open Cert.KernelIdeal Cert.KernelIdeal.Gen
open Idealize.ShloMosaic Idealize.ShloMosaic.TcCoe Idealize.SL.Sem
open Pointwise
set_option maxRecDepth 16384

variable (m : (ℓ : Loc nD τ sig) → Buf (Elt Ideal) ℓ)

/-- Row `r` of a point's one-hot block is token `512 t + r`'s. -/
theorem enc_block (c : Dev nD) (t : Fin cfg0.N) (r : Fin 512) (j : Fin 1024) :
    ((outsAt0 m c t.val t.isLt).1 (ix2 r j) : EReal)
      = if j = codeOf (xs m c) (es m c) (tokIx t.val r) then 1 else 0 := by
  obtain ⟨H, E, S, h, L⟩ := point m c t.val t.isLt
  rw [L.enc, encBlock_at (holds m c t E h.norms) (encPieces_cover _ _ _)]
  rfl

/-- Column `r` of a point's quantised block is token `512 t + r`'s. -/
theorem qst_block (c : Dev nD) (t : Fin cfg0.N) (ch : Fin 64) (r : Fin 512) :
    ((outsAt0 m c t.val t.isLt).2.1 (ix3 0 ch r) : EReal)
      = tok (xs m c) (tokIx t.val r) ch + (em (es m c) (codeOf (xs m c) (es m c) (tokIx t.val r)) ch
          - tok (xs m c) (tokIx t.val r) ch) := by
  obtain ⟨H, E, S, h, L⟩ := point m c t.val t.isLt
  rw [L.qst, qBlock_at (holds m c t E h.norms) _ (blk_codes m c t)]
  rfl

/-- The one-hot rows after the run. -/
theorem final_enc (c : Dev nD) : (dats m 0 c).arrAt 3 cfg0.N = Ref.enc (xs m c) (es m c) := by
  refine (dats m 0 c).arrAt_eq_of_covers 3 _ (by decide +kernel) fun t hf y => ?_
  have ht := lt64 t
  blk_simp
  rw [after0_3]
  obtain ⟨r, j, rfl⟩ : ∃ (r : Fin 512) (j : Fin 1024), y = (ix2 r j : S512x1024.Idx) := ⟨_, _, eq_ix2 _⟩
  have e : (win0_3.blk t).view.emb (ix2 r j : S512x1024.Idx) = (ix2 (tokIx t.val r) j : S32768x1024.Idx) := by
    unfold tokIx
    blk_ext [idx t]
  rw [e]
  exact (enc_block m c t r j).trans (Ref.enc_at (xs m c) (es m c) (tokIx t.val r) j).symm

/-- The quantised tokens after the run. -/
theorem final_qst (c : Dev nD) : (dats m 0 c).arrAt 4 cfg0.N
    = Ref.stOf (Ref.quant (Ref.enc (xs m c) (es m c)) (es m c)) (Ref.chanLast (xs m c)) := by
  refine (dats m 0 c).arrAt_eq_of_covers 4 _ (by decide +kernel) fun t hf y => ?_
  have ht := lt64 t
  blk_simp
  rw [after0_4]
  obtain ⟨z, ch, r, rfl⟩ : ∃ (z : Fin 1) (ch : Fin 64) (r : Fin 512), y = (ix3 z ch r : S1x64x512.Idx) :=
    ⟨_, _, _, eq_ix3 _⟩
  obtain rfl : z = 0 := Subsingleton.elim _ _
  have e : (win0_4.blk t).view.emb (ix3 0 ch r : S1x64x512.Idx)
      = (ix3 ⟨t.val / 4, by omega⟩ ch ⟨512 * (t.val % 4) + r.val, by omega⟩ : S16x64x2048.Idx) := by
    blk_ext [idx t]
  rw [e]
  refine (qst_block m c t ch r).trans (Eq.trans ?_ (Ref.st_at (xs m c) (es m c) _ ch _).symm)
  have n1 : (⟨t.val / 4 * 2048 + (512 * (t.val % 4) + r.val), by omega⟩ : Fin 32768) = tokIx t.val r :=
    Fin.ext (by unfold tokIx; simp only []; omega)
  have n2 : tok (xs m c) (tokIx t.val r) ch
      = xs m c (ix3 ⟨t.val / 4, by omega⟩ ch ⟨512 * (t.val % 4) + r.val, by omega⟩) := by
    unfold tok tokIx
    congr 2 <;> exact Fin.ext (by simp only []; omega)
  rw [n1, n2]

/-- The scratches after the last point. -/
theorem state_last (c : Dev nD) (t : Fin cfg0.N) (h1 : t.val % 64 = 63) :
    State m c 64 (outsAt0 m c t.val t.isLt).2.2.2.2.1 (outsAt0 m c t.val t.isLt).2.2.2.2.2.1
      (outsAt0 m c t.val t.isLt).2.2.2.2.2.2 := by
  obtain ⟨H, E, S, h, L⟩ := point m c t.val t.isLt
  have e : t.val + 1 = 64 := by have := lt64 t; omega
  rw [← e]
  exact h.step L

/-- The loss after the run, from the least distances. -/
theorem final_loss (c : Dev nD) : (dats m 0 c).arrAt 5 cfg0.N
    = fun _ => Ideal.div (Ideal.ofBits .f32 0x3FA00000#32 * ∑ n, least (xs m c) (es m c) n) (Ideal.ofBits .f32 0x4A000000#32) := by
  refine (dats m 0 c).arrAt_eq_of_covers 5 _ (by decide +kernel) fun t hf y => ?_
  have h1 := (flush0_5 t).mp hf
  blk_simp
  rw [after0_5, (last_C m c t (by omega) h1).1]
  refine (loss_at _).trans ?_
  rw [← sum_sseAt]
  simp only [(state_last m c t h1).sse]

/-- The perplexity after the run, from the counts. -/
theorem final_perp (c : Dev nD) : (dats m 0 c).arrAt 6 cfg0.N
    = fun _ => Ideal.exp (0 - ∑ j : Fin 1024, cnt (xs m c) (es m c) j * Ideal.ofBits .f32 0x38000000#32 *
        Ideal.log (cnt (xs m c) (es m c) j * Ideal.ofBits .f32 0x38000000#32 + Ideal.ofBits .f32 0x2EDBE6FF#32)) := by
  refine (dats m 0 c).arrAt_eq_of_covers 6 _ (by decide +kernel) fun t hf y => ?_
  have h1 := (flush0_6 t).mp hf
  blk_simp
  rw [after0_6, (last_C m c t (by omega) h1).2]
  refine (perp_at _).trans ?_
  simp only [(state_last m c t h1).hist, sum_cntAt]

/-- Dividing by the number of tokens is multiplying by its reciprocal. -/
theorem div_tokens (a : EReal) :
    Ideal.div a (Ideal.ofBits .f32 0x47000000#32) = a * Ideal.ofBits .f32 0x38000000#32 := by
  have hz : ((32768 : ℝ) : EReal) ≠ 0 := by exact_mod_cast (by norm_num : (32768 : ℝ) ≠ 0)
  rw [ofBits_tokens, ofBits_inv_tokens]
  unfold Ideal.div
  rw [if_neg hz, ← EReal.coe_inv]
  norm_num

/-- The perplexity is the reference's. -/
theorem perp_eq (x : FVec Ideal S16x64x2048 .f32) (e : FVec Ideal S1024x64 .f32) :
    (fun _ => Ideal.exp (0 - ∑ j : Fin 1024, cnt x e j * Ideal.ofBits .f32 0x38000000#32 *
        Ideal.log (cnt x e j * Ideal.ofBits .f32 0x38000000#32 + Ideal.ofBits .f32 0x2EDBE6FF#32)))
      = (Ref.perpOf (Ref.enc x e) : Vec Ideal S1x1 .f32) := by
  funext i
  obtain ⟨a, b, rfl⟩ : ∃ a b, i = ix2 a b := ⟨_, _, eq_ix2 _⟩
  refine Eq.trans ?_ (Ref.perp_at x e a b).symm
  simp only [div_tokens, zero_sub]

end Cert.Vq.Ker
-- ==== Proof.Loss.lean ====
module

public import proofs.«01_k».proof.Proof.KerFinal

/-!
# The loss

Where every input and every code entry is finite, the least distance the kernel adds up is the squared
error the reference adds up, and the weights `5/4 · S / N` and `S / N + 1/4 · (S / N)` agree.
-/

@[expose] public section
noncomputable section
namespace Cert.Vq.Ker
open Cert.KernelIdeal Cert.KernelIdeal.Gen
open Idealize.ShloMosaic Idealize.ShloMosaic.TcCoe Idealize.SL.Sem

/-- A finite sum of reals, read among the extended reals. -/
theorem coe_sum_real {ι : Type} [Fintype ι] (f : ι → ℝ) : ((∑ i, f i : ℝ) : EReal) = ∑ i, (f i : EReal) := by
  classical
  exact map_sum (⟨⟨Real.toEReal, EReal.coe_zero⟩, EReal.coe_add⟩ : ℝ →+ EReal) f Finset.univ

/-- For finite vectors the expanded distance is the sum of squared differences. -/
theorem dst_real (u : Fin 64 → ℝ) (v : Fin 1024 → Fin 64 → ℝ) (j : Fin 1024) :
    dst (fun c => (u c : EReal)) (fun j c => (v j c : EReal)) j
      = ((∑ c, (v j c - u c) * (v j c - u c) : ℝ) : EReal) := by
  unfold dst
  simp only [← EReal.coe_mul, ← coe_sum_real, ← EReal.coe_add, ← EReal.coe_sub]
  congr 1
  rw [Finset.mul_sum, ← Finset.sum_add_distrib, ← Finset.sum_sub_distrib]
  exact Finset.sum_congr rfl fun c _ => by ring

/-- The two ways of weighting a finite total. -/
theorem weights (s : ℝ) :
    Ideal.div (Ideal.ofBits .f32 0x3FA00000#32 * (s : EReal)) (Ideal.ofBits .f32 0x4A000000#32)
      = Ideal.div (s : EReal) (Ideal.ofBits .f32 0x4A000000#32)
        + Ideal.ofBits .f32 0x3E800000#32 * Ideal.div (s : EReal) (Ideal.ofBits .f32 0x4A000000#32) := by
  have hz : ((2097152 : ℝ) : EReal) ≠ 0 := by exact_mod_cast (by norm_num : (2097152 : ℝ) ≠ 0)
  rw [ofBits_five_quarters, ofBits_quarter, ofBits_entries]
  unfold Ideal.div
  simp only [if_neg hz]
  simp only [← EReal.coe_inv, ← EReal.coe_mul, ← EReal.coe_add]
  congr 1
  ring

/-- With finite inputs and codes the kernel's loss is the reference's. -/
theorem loss_eq (x : FVec Ideal S16x64x2048 .f32) (e : FVec Ideal S1024x64 .f32)
    (hx : ∀ i, (x i : EReal) ≠ ⊤ ∧ (x i : EReal) ≠ ⊥) (he : ∀ i, (e i : EReal) ≠ ⊤ ∧ (e i : EReal) ≠ ⊥) :
    (fun _ => Ideal.div (Ideal.ofBits .f32 0x3FA00000#32 * ∑ n, least x e n) (Ideal.ofBits .f32 0x4A000000#32))
      = (Ref.lossOf (Ref.quant (Ref.enc x e) e) (Ref.chanLast x) : Vec Ideal S1x1 .f32) := by
  have tx : ∀ n, tok x n = fun c => (((tok x n c).toReal : ℝ) : EReal) := fun n =>
    funext fun c => (EReal.coe_toReal (hx _).1 (hx _).2).symm
  have te : em e = fun j c => (((em e j c).toReal : ℝ) : EReal) :=
    funext fun j => funext fun c => (EReal.coe_toReal (he _).1 (he _).2).symm
  have hl : ∀ n, least x e n = ((∑ c, ((em e (codeOf x e n) c).toReal - (tok x n c).toReal)
      * ((em e (codeOf x e n) c).toReal - (tok x n c).toReal) : ℝ) : EReal) := fun n => by
    have := dst_real (fun c => (tok x n c).toReal) (fun j c => (em e j c).toReal) (codeOf x e n)
    rw [← tx n, ← te] at this
    exact this
  have hq : sqErr x e = ∑ n, least x e n := by
    refine Finset.sum_congr rfl fun n _ => ?_
    rw [hl, coe_sum_real]
    refine Finset.sum_congr rfl fun c _ => ?_
    have e1 : ((tok x n c).toReal : EReal) = tok x n c := EReal.coe_toReal (hx _).1 (hx _).2
    have e2 : ((em e (codeOf x e n) c).toReal : EReal) = em e (codeOf x e n) c := EReal.coe_toReal (he _).1 (he _).2
    rw [EReal.coe_mul, EReal.coe_sub, e1, e2]
  funext i
  obtain ⟨a, b, rfl⟩ : ∃ a b, i = ix2 a b := ⟨_, _, eq_ix2 _⟩
  refine Eq.trans ?_ (Ref.loss_at x e a b).symm
  rw [hq]
  simp only [hl]
  rw [← coe_sum_real]
  exact weights _

/-- An absolute value below the infinity word's value is a finite number's. -/
theorem finite_of_abs_lt (a : EReal)
    (h : FloatOps.cmpf (F := Ideal) (φ := .f32) .olt (FloatOps.hostAbsf (F := Ideal) (φ := .f32) a)
      (FloatOps.ofBits (F := Ideal) .f32 0x7F800000#32) = 1#1) : a ≠ ⊤ ∧ a ≠ ⊥ := by
  have htop : Ideal.ofBits .f32 0x7F800000#32 = ⊤ := ofBits_inf
  have h' : Ideal.cmp .olt (max a (-a)) (Ideal.ofBits .f32 0x7F800000#32) = 1#1 := h
  rw [htop] at h'
  unfold Ideal.cmp at h'
  constructor
  · rintro rfl
    simp at h'
  · rintro rfl
    simp at h'

/-- The run, read: the four result arrays are the reference's terms of the arguments, which are kept. -/
theorem run_values (m : (ℓ : Loc nD τ sig) → Buf (Elt Ideal) ℓ) (ρ : Dev nD → PrngReg)
    (hx : ∀ c i, (xs m c i : EReal) ≠ ⊤ ∧ (xs m c i : EReal) ≠ ⊥) (he : ∀ c i, (es m c i : EReal) ≠ ⊤ ∧ (es m c i : EReal) ≠ ⊥) :
    θ_run defs (onTc (τ := τ) (main (F := Ideal))) ⟨m, fun _ => 0, ρ⟩ fun r => ∀ c : Dev nD,
      r.2.mem ((c : Thread nD τ).loc main_v4_2)
          = Ref.lossOf (Ref.quant (Ref.enc (xs m c) (es m c)) (es m c)) (Ref.chanLast (xs m c))
      ∧ r.2.mem ((c : Thread nD τ).loc main_v4_1)
          = Ref.stOf (Ref.quant (Ref.enc (xs m c) (es m c)) (es m c)) (Ref.chanLast (xs m c))
      ∧ r.2.mem ((c : Thread nD τ).loc main_v4_3) = Ref.perpOf (Ref.enc (xs m c) (es m c))
      ∧ r.2.mem ((c : Thread nD τ).loc main_v4_0) = Ref.enc (xs m c) (es m c)
      ∧ r.2.mem ((c : Thread nD τ).loc main_arg0) = xs m c
      ∧ r.2.mem ((c : Thread nD τ).loc main_arg1) = es m c :=
  (θ_run defs _ _).mono (fun r h c => by
    obtain ⟨h0, h1, h2, h3, ha, hb⟩ := h c
    exact ⟨h2.trans ((final_loss m c).trans (loss_eq _ _ (hx c) (he c))), h1.trans (final_qst m c),
      h3.trans ((final_perp m c).trans (perp_eq _ _)), h0.trans (final_enc m c), ha, hb⟩)
    (Value.run_blocks m ρ)

end Cert.Vq.Ker
-- ==== Proof.lean ====
/- The proof of the certificate's claims: the three programs' frames, the idealization's ledger (no rewrite), and the
   kernel's results against the reference's at the extended reals. -/
module

public import proofs.«01_k».proof.Defs
public import proofs.«01_k».proof.Proof.Gen.KernelIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Loss
public import Idealize.ShloMosaic.Adequacy
public import Idealize.ShloMosaic.Init

@[expose] public section

noncomputable section

namespace Cert.Proof

open Idealize.ShloMosaic Idealize.SL.Sem Cert.Kernel

/-- The predicate's side conditions: a scalar broadcasts to each argument's shape. -/
theorem facts_finite : Cert.Pre_finite.Facts :=
  { bcast_S_S16x64x2048 := by decide, bcast_S_S1024x64 := by decide }

/-- The kernel's results are the reference's, where every input and every code entry is finite: both runs end at
    the reference's own terms of the arguments. -/
theorem algebraic : Cert.algebraic_KernelIdeal_ReferenceIdeal_pre_finite (hKernelIdeal := Cert.KernelIdeal.Gen.facts)
    (hReferenceIdeal := Cert.ReferenceIdeal.Gen.facts) (hPre_finite := facts_finite) := by
  intro m ρ m' ρ' hpre hargs
  refine ⟨_, _, _, _, Cert.Vq.Ker.run_values m ρ
    (fun c i => Cert.Vq.Ker.finite_of_abs_lt _ (congrFun (hpre c).1 i))
    (fun c i => Cert.Vq.Ker.finite_of_abs_lt _ (congrFun (hpre c).2 i)), ?_⟩
  refine (θ_run _ _ _).mono (fun r h c => ?_) (Cert.Vq.Ref.run_main m' ρ')
  have hc := h c
  rw [(hargs c).1, (hargs c).2] at hc
  rw [(hargs c).1, (hargs c).2]
  exact hc

/-- The claims, joined. -/
theorem claim : Cert.Claim := ⟨Cert.Kernel.Gen.facts, Cert.KernelIdeal.Gen.facts, Cert.ReferenceIdeal.Gen.facts, facts_finite,
  fun m ρ _ => Cert.Kernel.Gen.frame m ρ,
  fun m ρ _ => Cert.KernelIdeal.Gen.frame m ρ,
  fun m ρ _ => Cert.KernelIdeal.Gen.frame m ρ,
  fun m ρ _ => Cert.Vq.Ref.frame m ρ,
  fun m ρ _ => Cert.Vq.Ref.frame m ρ,
  trivial,
  algebraic⟩

end Cert.Proof

end
